-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x2048 : Shape := ⟨2, ![4096, 2048]⟩
abbrev S1 : Shape := ⟨1, ![1]⟩
abbrev S1024x2048 : Shape := ⟨2, ![1024, 2048]⟩
abbrev S16x256x1024 : Shape := ⟨3, ![16, 256, 1024]⟩
abbrev S12x256x1024 : Shape := ⟨3, ![12, 256, 1024]⟩
abbrev S4x1024x2048 : Shape := ⟨3, ![4, 1024, 2048]⟩
abbrev S2x512x2048 : Shape := ⟨3, ![2, 512, 2048]⟩
abbrev S4x256x2048 : Shape := ⟨3, ![4, 256, 2048]⟩
abbrev S16 : Shape := ⟨1, ![16]⟩
abbrev S2 : Shape := ⟨1, ![2]⟩
abbrev S12 : Shape := ⟨1, ![12]⟩
abbrev S4 : Shape := ⟨1, ![4]⟩
abbrev S_ : Shape := ⟨0, ![]⟩
abbrev S1x256x1024 : Shape := ⟨3, ![1, 256, 1024]⟩
abbrev S256x1024 : Shape := ⟨2, ![256, 1024]⟩
abbrev S1x512x2048 : Shape := ⟨3, ![1, 512, 2048]⟩
abbrev S512x2048 : Shape := ⟨2, ![512, 2048]⟩
abbrev S1x1024x2048 : Shape := ⟨3, ![1, 1024, 2048]⟩
abbrev S256x2048 : Shape := ⟨2, ![256, 2048]⟩
abbrev S1x256x2048 : Shape := ⟨3, ![1, 256, 2048]⟩

abbrev nBuf : Space → Nat
  | .hbm => 5
  | .vmem => 6
  | .smem => 2
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S1024x2048, .f32⟩
  | .local _ .vmem, ⟨0, _⟩ => ⟨S16x256x1024, .fp8e5m2⟩
  | .local _ .vmem, ⟨1, _⟩ => ⟨S12x256x1024, .fp8e5m2⟩
  | .local _ .vmem, ⟨2, _⟩ => ⟨S16x256x1024, .f32⟩
  | .local _ .vmem, ⟨3, _⟩ => ⟨S4x1024x2048, .fp8e5m2⟩
  | .local _ .vmem, ⟨4, _⟩ => ⟨S2x512x2048, .f32⟩
  | .local _ .vmem, ⟨5, _⟩ => ⟨S4x256x2048, .f32⟩
  | .local _ .smem, ⟨0, _⟩ => ⟨S1, .f32⟩
  | .local _ .smem, ⟨1, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  (ofTc nBuf bufTy 1 48 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) (c1_i32_0 : BitVec 32) (c0_i32_6 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32 : BitVec 32 := 1024#32
  let v14 : BitVec 32 := Scalar.muli v13 c1024_i32
  let v15 : BitVec 32 := Scalar.addi v14 c0_i32_6
  let c0_i32_11 : BitVec 32 := 0#32
  ![v15.toNat, 0]
def k0_dev1 (d0 : Dev nD) : Nat :=
  let c0_i32_215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_206 : BitVec 32 := 1#32
  let v292 : BitVec 32 := Scalar.addi v2 c1_i32_206
  let c4_i32_207 : BitVec 32 := 4#32
  let c0_i32_208 : BitVec 32 := 0#32
  let v293 : BitVec 1 := Scalar.cmpi .eq c4_i32_207 c0_i32_208
  let c1_i32_209 : BitVec 32 := 1#32
  let v294 : BitVec 32 := Scalar.select v293 c1_i32_209 c4_i32_207
  let v295 : BitVec 32 := Scalar.remsi v292 v294
  let c0_i32_211 : BitVec 32 := 0#32
  let v297 : BitVec 1 := Scalar.cmpi .slt v295 c0_i32_211
  let c0_i32_212 : BitVec 32 := 0#32
  let v298 : BitVec 1 := Scalar.cmpi .slt v294 c0_i32_212
  let v299 : BitVec 1 := Scalar.xori v297 v298
  let c0_i32_210 : BitVec 32 := 0#32
  let v296 : BitVec 1 := Scalar.cmpi .ne v295 c0_i32_210
  let v300 : BitVec 1 := Scalar.andi v299 v296
  let v301 : BitVec 32 := Scalar.addi v295 v294
  let v302 : BitVec 32 := Scalar.select v300 v301 v295
  let c1_i32_214 : BitVec 32 := 1#32
  let v303 : BitVec 32 := Scalar.muli v302 c1_i32_214
  let v304 : BitVec 32 := Scalar.addi c0_i32_215 v303
  v304.toNat
def k0_dev2 (d0 : Dev nD) : Nat :=
  let c0_i32_225 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_216 : BitVec 32 := 2#32
  let v305 : BitVec 32 := Scalar.addi v2 c2_i32_216
  let c4_i32_217 : BitVec 32 := 4#32
  let c0_i32_218 : BitVec 32 := 0#32
  let v306 : BitVec 1 := Scalar.cmpi .eq c4_i32_217 c0_i32_218
  let c1_i32_219 : BitVec 32 := 1#32
  let v307 : BitVec 32 := Scalar.select v306 c1_i32_219 c4_i32_217
  let v308 : BitVec 32 := Scalar.remsi v305 v307
  let c0_i32_221 : BitVec 32 := 0#32
  let v310 : BitVec 1 := Scalar.cmpi .slt v308 c0_i32_221
  let c0_i32_222 : BitVec 32 := 0#32
  let v311 : BitVec 1 := Scalar.cmpi .slt v307 c0_i32_222
  let v312 : BitVec 1 := Scalar.xori v310 v311
  let c0_i32_220 : BitVec 32 := 0#32
  let v309 : BitVec 1 := Scalar.cmpi .ne v308 c0_i32_220
  let v313 : BitVec 1 := Scalar.andi v312 v309
  let v314 : BitVec 32 := Scalar.addi v308 v307
  let v315 : BitVec 32 := Scalar.select v313 v314 v308
  let c1_i32_224 : BitVec 32 := 1#32
  let v316 : BitVec 32 := Scalar.muli v315 c1_i32_224
  let v317 : BitVec 32 := Scalar.addi c0_i32_225 v316
  v317.toNat
def k0_dev3 (d0 : Dev nD) : Nat :=
  let c0_i32_235 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_226 : BitVec 32 := 3#32
  let v318 : BitVec 32 := Scalar.addi v2 c3_i32_226
  let c4_i32_227 : BitVec 32 := 4#32
  let c0_i32_228 : BitVec 32 := 0#32
  let v319 : BitVec 1 := Scalar.cmpi .eq c4_i32_227 c0_i32_228
  let c1_i32_229 : BitVec 32 := 1#32
  let v320 : BitVec 32 := Scalar.select v319 c1_i32_229 c4_i32_227
  let v321 : BitVec 32 := Scalar.remsi v318 v320
  let c0_i32_231 : BitVec 32 := 0#32
  let v323 : BitVec 1 := Scalar.cmpi .slt v321 c0_i32_231
  let c0_i32_232 : BitVec 32 := 0#32
  let v324 : BitVec 1 := Scalar.cmpi .slt v320 c0_i32_232
  let v325 : BitVec 1 := Scalar.xori v323 v324
  let c0_i32_230 : BitVec 32 := 0#32
  let v322 : BitVec 1 := Scalar.cmpi .ne v321 c0_i32_230
  let v326 : BitVec 1 := Scalar.andi v325 v322
  let v327 : BitVec 32 := Scalar.addi v321 v320
  let v328 : BitVec 32 := Scalar.select v326 v327 v321
  let c1_i32_234 : BitVec 32 := 1#32
  let v329 : BitVec 32 := Scalar.muli v328 c1_i32_234
  let v330 : BitVec 32 := Scalar.addi c0_i32_235 v329
  v330.toNat
def k0_dev4 (d0 : Dev nD) : Nat :=
  let c0_i32_268 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_256 : BitVec 32 := 1#32
  let v355 : BitVec 32 := Scalar.addi v2 c1_i32_256
  let c4_i32_257 : BitVec 32 := 4#32
  let c0_i32_258 : BitVec 32 := 0#32
  let v356 : BitVec 1 := Scalar.cmpi .eq c4_i32_257 c0_i32_258
  let c1_i32_259 : BitVec 32 := 1#32
  let v357 : BitVec 32 := Scalar.select v356 c1_i32_259 c4_i32_257
  let v358 : BitVec 32 := Scalar.remsi v355 v357
  let c0_i32_261 : BitVec 32 := 0#32
  let v360 : BitVec 1 := Scalar.cmpi .slt v358 c0_i32_261
  let c0_i32_262 : BitVec 32 := 0#32
  let v361 : BitVec 1 := Scalar.cmpi .slt v357 c0_i32_262
  let v362 : BitVec 1 := Scalar.xori v360 v361
  let c0_i32_260 : BitVec 32 := 0#32
  let v359 : BitVec 1 := Scalar.cmpi .ne v358 c0_i32_260
  let v363 : BitVec 1 := Scalar.andi v362 v359
  let v364 : BitVec 32 := Scalar.addi v358 v357
  let v365 : BitVec 32 := Scalar.select v363 v364 v358
  let c1_i32_267 : BitVec 32 := 1#32
  let v366 : BitVec 32 := Scalar.muli v365 c1_i32_267
  let v367 : BitVec 32 := Scalar.addi c0_i32_268 v366
  v367.toNat
def k0_dev5 (d0 : Dev nD) : Nat :=
  let c0_i32_303 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_291 : BitVec 32 := 3#32
  let v400 : BitVec 32 := Scalar.addi v2 c3_i32_291
  let c4_i32_292 : BitVec 32 := 4#32
  let c0_i32_293 : BitVec 32 := 0#32
  let v401 : BitVec 1 := Scalar.cmpi .eq c4_i32_292 c0_i32_293
  let c1_i32_294 : BitVec 32 := 1#32
  let v402 : BitVec 32 := Scalar.select v401 c1_i32_294 c4_i32_292
  let v403 : BitVec 32 := Scalar.remsi v400 v402
  let c0_i32_296 : BitVec 32 := 0#32
  let v405 : BitVec 1 := Scalar.cmpi .slt v403 c0_i32_296
  let c0_i32_297 : BitVec 32 := 0#32
  let v406 : BitVec 1 := Scalar.cmpi .slt v402 c0_i32_297
  let v407 : BitVec 1 := Scalar.xori v405 v406
  let c0_i32_295 : BitVec 32 := 0#32
  let v404 : BitVec 1 := Scalar.cmpi .ne v403 c0_i32_295
  let v408 : BitVec 1 := Scalar.andi v407 v404
  let v409 : BitVec 32 := Scalar.addi v403 v402
  let v410 : BitVec 32 := Scalar.select v408 v409 v403
  let c1_i32_302 : BitVec 32 := 1#32
  let v411 : BitVec 32 := Scalar.muli v410 c1_i32_302
  let v412 : BitVec 32 := Scalar.addi c0_i32_303 v411
  v412.toNat
def k0_dev6 (d0 : Dev nD) : Nat :=
  let c0_i32_338 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_326 : BitVec 32 := 2#32
  let v445 : BitVec 32 := Scalar.addi v2 c2_i32_326
  let c4_i32_327 : BitVec 32 := 4#32
  let c0_i32_328 : BitVec 32 := 0#32
  let v446 : BitVec 1 := Scalar.cmpi .eq c4_i32_327 c0_i32_328
  let c1_i32_329 : BitVec 32 := 1#32
  let v447 : BitVec 32 := Scalar.select v446 c1_i32_329 c4_i32_327
  let v448 : BitVec 32 := Scalar.remsi v445 v447
  let c0_i32_331 : BitVec 32 := 0#32
  let v450 : BitVec 1 := Scalar.cmpi .slt v448 c0_i32_331
  let c0_i32_332 : BitVec 32 := 0#32
  let v451 : BitVec 1 := Scalar.cmpi .slt v447 c0_i32_332
  let v452 : BitVec 1 := Scalar.xori v450 v451
  let c0_i32_330 : BitVec 32 := 0#32
  let v449 : BitVec 1 := Scalar.cmpi .ne v448 c0_i32_330
  let v453 : BitVec 1 := Scalar.andi v452 v449
  let v454 : BitVec 32 := Scalar.addi v448 v447
  let v455 : BitVec 32 := Scalar.select v453 v454 v448
  let c1_i32_337 : BitVec 32 := 1#32
  let v456 : BitVec 32 := Scalar.muli v455 c1_i32_337
  let v457 : BitVec 32 := Scalar.addi c0_i32_338 v456
  v457.toNat
def k0_dev7 (d0 : Dev nD) : Nat :=
  let c0_i32_374 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_362 : BitVec 32 := 1#32
  let v490 : BitVec 32 := Scalar.addi v2 c1_i32_362
  let c4_i32_363 : BitVec 32 := 4#32
  let c0_i32_364 : BitVec 32 := 0#32
  let v491 : BitVec 1 := Scalar.cmpi .eq c4_i32_363 c0_i32_364
  let c1_i32_365 : BitVec 32 := 1#32
  let v492 : BitVec 32 := Scalar.select v491 c1_i32_365 c4_i32_363
  let v493 : BitVec 32 := Scalar.remsi v490 v492
  let c0_i32_367 : BitVec 32 := 0#32
  let v495 : BitVec 1 := Scalar.cmpi .slt v493 c0_i32_367
  let c0_i32_368 : BitVec 32 := 0#32
  let v496 : BitVec 1 := Scalar.cmpi .slt v492 c0_i32_368
  let v497 : BitVec 1 := Scalar.xori v495 v496
  let c0_i32_366 : BitVec 32 := 0#32
  let v494 : BitVec 1 := Scalar.cmpi .ne v493 c0_i32_366
  let v498 : BitVec 1 := Scalar.andi v497 v494
  let v499 : BitVec 32 := Scalar.addi v493 v492
  let v500 : BitVec 32 := Scalar.select v498 v499 v493
  let c1_i32_373 : BitVec 32 := 1#32
  let v501 : BitVec 32 := Scalar.muli v500 c1_i32_373
  let v502 : BitVec 32 := Scalar.addi c0_i32_374 v501
  v502.toNat
def k0_dev8 (d0 : Dev nD) : Nat :=
  let c0_i32_410 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_398 : BitVec 32 := 3#32
  let v535 : BitVec 32 := Scalar.addi v2 c3_i32_398
  let c4_i32_399 : BitVec 32 := 4#32
  let c0_i32_400 : BitVec 32 := 0#32
  let v536 : BitVec 1 := Scalar.cmpi .eq c4_i32_399 c0_i32_400
  let c1_i32_401 : BitVec 32 := 1#32
  let v537 : BitVec 32 := Scalar.select v536 c1_i32_401 c4_i32_399
  let v538 : BitVec 32 := Scalar.remsi v535 v537
  let c0_i32_403 : BitVec 32 := 0#32
  let v540 : BitVec 1 := Scalar.cmpi .slt v538 c0_i32_403
  let c0_i32_404 : BitVec 32 := 0#32
  let v541 : BitVec 1 := Scalar.cmpi .slt v537 c0_i32_404
  let v542 : BitVec 1 := Scalar.xori v540 v541
  let c0_i32_402 : BitVec 32 := 0#32
  let v539 : BitVec 1 := Scalar.cmpi .ne v538 c0_i32_402
  let v543 : BitVec 1 := Scalar.andi v542 v539
  let v544 : BitVec 32 := Scalar.addi v538 v537
  let v545 : BitVec 32 := Scalar.select v543 v544 v538
  let c1_i32_409 : BitVec 32 := 1#32
  let v546 : BitVec 32 := Scalar.muli v545 c1_i32_409
  let v547 : BitVec 32 := Scalar.addi c0_i32_410 v546
  v547.toNat
def k0_dev9 (d0 : Dev nD) : Nat :=
  let c0_i32_446 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_434 : BitVec 32 := 2#32
  let v580 : BitVec 32 := Scalar.addi v2 c2_i32_434
  let c4_i32_435 : BitVec 32 := 4#32
  let c0_i32_436 : BitVec 32 := 0#32
  let v581 : BitVec 1 := Scalar.cmpi .eq c4_i32_435 c0_i32_436
  let c1_i32_437 : BitVec 32 := 1#32
  let v582 : BitVec 32 := Scalar.select v581 c1_i32_437 c4_i32_435
  let v583 : BitVec 32 := Scalar.remsi v580 v582
  let c0_i32_439 : BitVec 32 := 0#32
  let v585 : BitVec 1 := Scalar.cmpi .slt v583 c0_i32_439
  let c0_i32_440 : BitVec 32 := 0#32
  let v586 : BitVec 1 := Scalar.cmpi .slt v582 c0_i32_440
  let v587 : BitVec 1 := Scalar.xori v585 v586
  let c0_i32_438 : BitVec 32 := 0#32
  let v584 : BitVec 1 := Scalar.cmpi .ne v583 c0_i32_438
  let v588 : BitVec 1 := Scalar.andi v587 v584
  let v589 : BitVec 32 := Scalar.addi v583 v582
  let v590 : BitVec 32 := Scalar.select v588 v589 v583
  let c1_i32_445 : BitVec 32 := 1#32
  let v591 : BitVec 32 := Scalar.muli v590 c1_i32_445
  let v592 : BitVec 32 := Scalar.addi c0_i32_446 v591
  v592.toNat
def k0_dev10 (d0 : Dev nD) : Nat :=
  let c0_i32_482 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_470 : BitVec 32 := 1#32
  let v625 : BitVec 32 := Scalar.addi v2 c1_i32_470
  let c4_i32_471 : BitVec 32 := 4#32
  let c0_i32_472 : BitVec 32 := 0#32
  let v626 : BitVec 1 := Scalar.cmpi .eq c4_i32_471 c0_i32_472
  let c1_i32_473 : BitVec 32 := 1#32
  let v627 : BitVec 32 := Scalar.select v626 c1_i32_473 c4_i32_471
  let v628 : BitVec 32 := Scalar.remsi v625 v627
  let c0_i32_475 : BitVec 32 := 0#32
  let v630 : BitVec 1 := Scalar.cmpi .slt v628 c0_i32_475
  let c0_i32_476 : BitVec 32 := 0#32
  let v631 : BitVec 1 := Scalar.cmpi .slt v627 c0_i32_476
  let v632 : BitVec 1 := Scalar.xori v630 v631
  let c0_i32_474 : BitVec 32 := 0#32
  let v629 : BitVec 1 := Scalar.cmpi .ne v628 c0_i32_474
  let v633 : BitVec 1 := Scalar.andi v632 v629
  let v634 : BitVec 32 := Scalar.addi v628 v627
  let v635 : BitVec 32 := Scalar.select v633 v634 v628
  let c1_i32_481 : BitVec 32 := 1#32
  let v636 : BitVec 32 := Scalar.muli v635 c1_i32_481
  let v637 : BitVec 32 := Scalar.addi c0_i32_482 v636
  v637.toNat
def k0_dev11 (d0 : Dev nD) : Nat :=
  let c0_i32_517 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_505 : BitVec 32 := 3#32
  let v670 : BitVec 32 := Scalar.addi v2 c3_i32_505
  let c4_i32_506 : BitVec 32 := 4#32
  let c0_i32_507 : BitVec 32 := 0#32
  let v671 : BitVec 1 := Scalar.cmpi .eq c4_i32_506 c0_i32_507
  let c1_i32_508 : BitVec 32 := 1#32
  let v672 : BitVec 32 := Scalar.select v671 c1_i32_508 c4_i32_506
  let v673 : BitVec 32 := Scalar.remsi v670 v672
  let c0_i32_510 : BitVec 32 := 0#32
  let v675 : BitVec 1 := Scalar.cmpi .slt v673 c0_i32_510
  let c0_i32_511 : BitVec 32 := 0#32
  let v676 : BitVec 1 := Scalar.cmpi .slt v672 c0_i32_511
  let v677 : BitVec 1 := Scalar.xori v675 v676
  let c0_i32_509 : BitVec 32 := 0#32
  let v674 : BitVec 1 := Scalar.cmpi .ne v673 c0_i32_509
  let v678 : BitVec 1 := Scalar.andi v677 v674
  let v679 : BitVec 32 := Scalar.addi v673 v672
  let v680 : BitVec 32 := Scalar.select v678 v679 v673
  let c1_i32_516 : BitVec 32 := 1#32
  let v681 : BitVec 32 := Scalar.muli v680 c1_i32_516
  let v682 : BitVec 32 := Scalar.addi c0_i32_517 v681
  v682.toNat
def k0_dev12 (d0 : Dev nD) : Nat :=
  let c0_i32_554 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_542 : BitVec 32 := 2#32
  let v715 : BitVec 32 := Scalar.addi v2 c2_i32_542
  let c4_i32_543 : BitVec 32 := 4#32
  let c0_i32_544 : BitVec 32 := 0#32
  let v716 : BitVec 1 := Scalar.cmpi .eq c4_i32_543 c0_i32_544
  let c1_i32_545 : BitVec 32 := 1#32
  let v717 : BitVec 32 := Scalar.select v716 c1_i32_545 c4_i32_543
  let v718 : BitVec 32 := Scalar.remsi v715 v717
  let c0_i32_547 : BitVec 32 := 0#32
  let v720 : BitVec 1 := Scalar.cmpi .slt v718 c0_i32_547
  let c0_i32_548 : BitVec 32 := 0#32
  let v721 : BitVec 1 := Scalar.cmpi .slt v717 c0_i32_548
  let v722 : BitVec 1 := Scalar.xori v720 v721
  let c0_i32_546 : BitVec 32 := 0#32
  let v719 : BitVec 1 := Scalar.cmpi .ne v718 c0_i32_546
  let v723 : BitVec 1 := Scalar.andi v722 v719
  let v724 : BitVec 32 := Scalar.addi v718 v717
  let v725 : BitVec 32 := Scalar.select v723 v724 v718
  let c1_i32_553 : BitVec 32 := 1#32
  let v726 : BitVec 32 := Scalar.muli v725 c1_i32_553
  let v727 : BitVec 32 := Scalar.addi c0_i32_554 v726
  v727.toNat
def k0_dev13 (d0 : Dev nD) : Nat :=
  let c0_i32_591 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_579 : BitVec 32 := 1#32
  let v760 : BitVec 32 := Scalar.addi v2 c1_i32_579
  let c4_i32_580 : BitVec 32 := 4#32
  let c0_i32_581 : BitVec 32 := 0#32
  let v761 : BitVec 1 := Scalar.cmpi .eq c4_i32_580 c0_i32_581
  let c1_i32_582 : BitVec 32 := 1#32
  let v762 : BitVec 32 := Scalar.select v761 c1_i32_582 c4_i32_580
  let v763 : BitVec 32 := Scalar.remsi v760 v762
  let c0_i32_584 : BitVec 32 := 0#32
  let v765 : BitVec 1 := Scalar.cmpi .slt v763 c0_i32_584
  let c0_i32_585 : BitVec 32 := 0#32
  let v766 : BitVec 1 := Scalar.cmpi .slt v762 c0_i32_585
  let v767 : BitVec 1 := Scalar.xori v765 v766
  let c0_i32_583 : BitVec 32 := 0#32
  let v764 : BitVec 1 := Scalar.cmpi .ne v763 c0_i32_583
  let v768 : BitVec 1 := Scalar.andi v767 v764
  let v769 : BitVec 32 := Scalar.addi v763 v762
  let v770 : BitVec 32 := Scalar.select v768 v769 v763
  let c1_i32_590 : BitVec 32 := 1#32
  let v771 : BitVec 32 := Scalar.muli v770 c1_i32_590
  let v772 : BitVec 32 := Scalar.addi c0_i32_591 v771
  v772.toNat
def k0_dev14 (d0 : Dev nD) : Nat :=
  let c0_i32_627 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_615 : BitVec 32 := 3#32
  let v805 : BitVec 32 := Scalar.addi v2 c3_i32_615
  let c4_i32_616 : BitVec 32 := 4#32
  let c0_i32_617 : BitVec 32 := 0#32
  let v806 : BitVec 1 := Scalar.cmpi .eq c4_i32_616 c0_i32_617
  let c1_i32_618 : BitVec 32 := 1#32
  let v807 : BitVec 32 := Scalar.select v806 c1_i32_618 c4_i32_616
  let v808 : BitVec 32 := Scalar.remsi v805 v807
  let c0_i32_620 : BitVec 32 := 0#32
  let v810 : BitVec 1 := Scalar.cmpi .slt v808 c0_i32_620
  let c0_i32_621 : BitVec 32 := 0#32
  let v811 : BitVec 1 := Scalar.cmpi .slt v807 c0_i32_621
  let v812 : BitVec 1 := Scalar.xori v810 v811
  let c0_i32_619 : BitVec 32 := 0#32
  let v809 : BitVec 1 := Scalar.cmpi .ne v808 c0_i32_619
  let v813 : BitVec 1 := Scalar.andi v812 v809
  let v814 : BitVec 32 := Scalar.addi v808 v807
  let v815 : BitVec 32 := Scalar.select v813 v814 v808
  let c1_i32_626 : BitVec 32 := 1#32
  let v816 : BitVec 32 := Scalar.muli v815 c1_i32_626
  let v817 : BitVec 32 := Scalar.addi c0_i32_627 v816
  v817.toNat
def k0_dev15 (d0 : Dev nD) : Nat :=
  let c0_i32_664 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_652 : BitVec 32 := 2#32
  let v850 : BitVec 32 := Scalar.addi v2 c2_i32_652
  let c4_i32_653 : BitVec 32 := 4#32
  let c0_i32_654 : BitVec 32 := 0#32
  let v851 : BitVec 1 := Scalar.cmpi .eq c4_i32_653 c0_i32_654
  let c1_i32_655 : BitVec 32 := 1#32
  let v852 : BitVec 32 := Scalar.select v851 c1_i32_655 c4_i32_653
  let v853 : BitVec 32 := Scalar.remsi v850 v852
  let c0_i32_657 : BitVec 32 := 0#32
  let v855 : BitVec 1 := Scalar.cmpi .slt v853 c0_i32_657
  let c0_i32_658 : BitVec 32 := 0#32
  let v856 : BitVec 1 := Scalar.cmpi .slt v852 c0_i32_658
  let v857 : BitVec 1 := Scalar.xori v855 v856
  let c0_i32_656 : BitVec 32 := 0#32
  let v854 : BitVec 1 := Scalar.cmpi .ne v853 c0_i32_656
  let v858 : BitVec 1 := Scalar.andi v857 v854
  let v859 : BitVec 32 := Scalar.addi v853 v852
  let v860 : BitVec 32 := Scalar.select v858 v859 v853
  let c1_i32_663 : BitVec 32 := 1#32
  let v861 : BitVec 32 := Scalar.muli v860 c1_i32_663
  let v862 : BitVec 32 := Scalar.addi c0_i32_664 v861
  v862.toNat
def k0_off2 (d0 : Dev nD) (c0_i32_745 : BitVec 32) (c0_i32_753 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v967 : BitVec 32 := Scalar.subi v2 c0_i32_745
  let c4_i32_746 : BitVec 32 := 4#32
  let c0_i32_747 : BitVec 32 := 0#32
  let v968 : BitVec 1 := Scalar.cmpi .eq c4_i32_746 c0_i32_747
  let c1_i32_748 : BitVec 32 := 1#32
  let v969 : BitVec 32 := Scalar.select v968 c1_i32_748 c4_i32_746
  let v970 : BitVec 32 := Scalar.remsi v967 v969
  let c0_i32_750 : BitVec 32 := 0#32
  let v972 : BitVec 1 := Scalar.cmpi .slt v970 c0_i32_750
  let c0_i32_751 : BitVec 32 := 0#32
  let v973 : BitVec 1 := Scalar.cmpi .slt v969 c0_i32_751
  let v974 : BitVec 1 := Scalar.xori v972 v973
  let c0_i32_749 : BitVec 32 := 0#32
  let v971 : BitVec 1 := Scalar.cmpi .ne v970 c0_i32_749
  let v975 : BitVec 1 := Scalar.andi v974 v971
  let v976 : BitVec 32 := Scalar.addi v970 v969
  let v977 : BitVec 32 := Scalar.select v975 v976 v970
  let c1024_i32_752 : BitVec 32 := 1024#32
  let v978 : BitVec 32 := Scalar.muli v977 c1024_i32_752
  let v979 : BitVec 32 := Scalar.addi v978 c0_i32_753
  let c0_i32_758 : BitVec 32 := 0#32
  ![v979.toNat, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Slab.lean ====
/-
  A buffer of three axes as a row of pages, and a repetition written in continuation style.

  `slab b i` is the i-th block of the buffer along its first axis, `page b i` the same block with that axis
  dropped, and `rep n f k` runs `f 0`, …, `f (n - 1)` and then `k`.
-/
module

public import Idealize.ShloMosaic.Lib.Pipeline
public import Idealize.ShloMosaic.Lib.Sig
public import Idealize.ShloMosaic.PureOps

@[expose] public section

noncomputable section

namespace Cert.Paged

open Idealize.ShloMosaic Idealize.SL.Sem

/-- Three axes. -/
abbrev Sh3 (n a c : ℕ) : Shape := ⟨3, ![n, a, c]⟩
/-- Two axes. -/
abbrev Sh2 (a c : ℕ) : Shape := ⟨2, ![a, c]⟩

/-- A block of one page lies inside the buffer. -/
theorem page_inb {n a c : ℕ} (i : Fin n) :
    ∀ x, (![i.val, 0, 0] : Fin 3 → ℕ) x + (Sh3 1 a c).size x ≤ (Sh3 n a c).size x := by
  intro x
  have hi := i.isLt
  fin_cases x <;> simp <;> omega

/-- The rectangle of the i-th page. -/
abbrev pageRect (n a c : ℕ) (i : Fin n) : Rect (Sh3 n a c) :=
  Rect.unit (s := Sh3 n a c) ![i.val, 0, 0] (Sh3 1 a c).size (page_inb i)

/-- Dropping the leading axis of size one. -/
theorem page_squeezes (a c : ℕ) : (Sh3 1 a c).Squeezes (Sh2 a c) := by
  show Shape.dropsOnes [c, a, 1] [c, a] = true
  simp [Shape.dropsOnes]

/-- One page as a block of three axes is one page of two. -/
theorem page_casts (a c : ℕ) : (Sh3 1 a c).ShapeCasts (Sh2 a c) := (page_squeezes a c).numel_eq

section
variable {sig : RefSig} {sp : Space} {e : EltTy} {n a c : ℕ}

/-- The i-th page as a block of three axes. -/
abbrev slab (b : Memref sig .tc sp (Sh3 n a c) e) (i : Fin n) : Memref sig .tc sp (Sh3 1 a c) e :=
  b.slice (pageRect n a c i) (fun _ => rfl)

/-- The i-th page. -/
abbrev page (b : Memref sig .tc sp (Sh3 n a c) e) (i : Fin n) : Memref sig .tc sp (Sh2 a c) e :=
  (slab b i).squeeze (Sh2 a c) (page_squeezes a c)

/-- The i-th semaphore lies inside its array. -/
theorem sem_inb (i : Fin n) : ∀ x, (![i.val] : Fin 1 → ℕ) x + (⟨1, ![1]⟩ : Shape).size x ≤ (⟨1, ![n]⟩ : Shape).size x := by
  intro x
  have hi := i.isLt
  fin_cases x
  simp
  omega

/-- One semaphore of an array, the leading axis dropped. -/
theorem sem_squeezes : (⟨1, ![1]⟩ : Shape).Squeezes ⟨0, ![]⟩ := by decide

/-- The i-th semaphore of an array. -/
abbrev semAt (s : DmaSems sig ⟨1, ![n]⟩) (i : Fin n) : DmaSem sig :=
  ((s.slice (Rect.unit (s := ⟨1, ![n]⟩) ![i.val] (⟨1, ![1]⟩ : Shape).size (sem_inb i))).squeeze ⟨0, ![]⟩ sem_squeezes).sem
end

/-- Run `f 0`, …, `f (n - 1)`, then `k`. -/
def rep {P : Type*} : (n : ℕ) → (Fin n → P → P) → P → P
  | 0, _, k => k
  | n + 1, f, k => f 0 (rep n (fun i => f i.succ) k)

end Cert.Paged

end
-- ==== Proof.Pages.lean ====
/-
  Holding a buffer page by page.

  `Own c M` is the full ownership of the elements of a memref at some contents and `Has c M q v` a share of them
  holding `v`. A buffer of three axes is the pages it is made of; a load or a store of a page needs that page only;
  a copy gives the destination what the source held. `rep_rule` proves a repetition from one step.
-/
module

public import proofs.«01_k».proof.Proof.Slab
public import Idealize.ShloMosaic.Lib.Transfers
public import Idealize.ShloMosaic.Lib.Tactic

@[expose] public section

noncomputable section

namespace Cert.Paged

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

/-! ## Repetition -/

section
variable {M : Type} [URA M] {P : Type*}

/-- Over one index more: the first and the rest. -/
theorem sep_fin_succ {n : ℕ} (Φ : Fin (n + 1) → sProp M) :
    bigSep Finset.univ Φ = iprop(Φ 0 ∗ bigSep Finset.univ fun i : Fin n => Φ i.succ) := by
  rw [Fin.univ_succ, Finset.cons_eq_insert, bigSep_insert (by simp), bigSep_map]
  rfl

/-- A conjunction weakened in each conjunct. -/
theorem each {I : Type*} {S : Finset I} {Φ Ψ : I → sProp M} (h : ∀ i, Φ i ⊢ Ψ i) : bigSep S Φ ⊢ bigSep S Ψ :=
  bigSep_mono fun i _ => h i

/-- One conjunct of a conjunction. -/
theorem one {I : Type*} [DecidableEq I] {S : Finset I} (Φ : I → sProp M) {i : I} (h : i ∈ S) : bigSep S Φ ⊢ Φ i := bigSep_elim h

/-- Two conjunctions over the same indices, conjoined index by index, -/
theorem zip {I : Type*} {S : Finset I} (Φ Ψ : I → sProp M) : iprop(bigSep S Φ ∗ bigSep S Ψ) ⊢ bigSep S fun i => iprop(Φ i ∗ Ψ i) :=
  Entails.of_eq (bigSep_sep' S Φ Ψ).symm
/-- and taken apart. -/
theorem unzip {I : Type*} {S : Finset I} (Φ Ψ : I → sProp M) : (bigSep S fun i => iprop(Φ i ∗ Ψ i)) ⊢ iprop(bigSep S Φ ∗ bigSep S Ψ) :=
  Entails.of_eq (bigSep_sep' S Φ Ψ)

/-- A conjunction weakened in each conjunct with the help of what persists. -/
theorem each_with {I : Type*} [DecidableEq I] {S : Finset I} {R : sProp M} [BI.Persistent R] {Φ Ψ : I → sProp M}
    (h : ∀ i, iprop(R ∗ Φ i) ⊢ Ψ i) : iprop(R ∗ bigSep S Φ) ⊢ bigSep S Ψ := by
  iintro ⟨#HR, H⟩
  ihave HRs := (show R ⊢ bigSep S (fun _ => R) from bigSep_intro_persistent fun _ _ => .refl) $$ HR
  ihave Hz := (zip (S := S) (fun _ => R) Φ) $$ [HRs H]
  · isplitl [HRs] <;> iassumption
  iapply (each (S := S) h) $$ Hz

/-- A repetition whose i-th step turns `A i` into `B i` and carries `R` from `i` to `i + 1`. -/
theorem rep_rule (W : P → sProp M) : (n : ℕ) → (f : Fin n → P → P) → (k : P) → (A B : Fin n → sProp M) → (R : Fin (n + 1) → sProp M) →
    (∀ i k, iprop(A i ∗ R i.castSucc) ⊢ iprop((iprop(B i ∗ R i.succ) -∗ W k) -∗ W (f i k))) →
    iprop(bigSep Finset.univ A ∗ R 0) ⊢ iprop((iprop(bigSep Finset.univ B ∗ R (Fin.last n)) -∗ W k) -∗ W (rep n f k))
  | 0, f, k, A, B, R, _ => by
    show iprop(_ ∗ R (Fin.last 0)) ⊢ iprop(_ -∗ W k)
    iintro ⟨-, HR⟩ Hk
    iapply Hk
    isplitr
    · rw [Finset.univ_eq_empty, bigSep_empty]; iempintro
    · iexact HR
  | n + 1, f, k, A, B, R, step => by
    rw [sep_fin_succ A, sep_fin_succ B]
    show iprop((A 0 ∗ _) ∗ R (Fin.castSucc 0)) ⊢ iprop((iprop((_ ∗ _) ∗ R (Fin.last n).succ) -∗ _) -∗ W (f 0 (rep n (fun i => f i.succ) k)))
    iintro ⟨⟨HA, HAs⟩, HR⟩ Hk
    iapply (step 0 (rep n (fun i => f i.succ) k)) $$ [HA HR]
    · isplitl [HA]; · iexact HA
      iexact HR
    iintro ⟨HB, HR⟩
    iapply (rep_rule W n (fun i => f i.succ) k (fun i => A i.succ) (fun i => B i.succ) (fun i => R i.succ)
      (fun i k => step i.succ k)) $$ [HAs HR]
    · isplitl [HAs]; · iexact HAs
      iexact HR
    iintro ⟨HBs, HR⟩
    iapply Hk
    isplitl [HB HBs]
    · isplitl [HB] <;> iassumption
    · iexact HR
end

/-! ## Shapes and views -/

section
variable {sig : RefSig} {κ : Kind} {sp : Space} {e : EltTy} {Val : EltTy → Type}

/-- A page, with its leading axis of size one. -/
def up {a c : ℕ} {α : Type} (v : (Sh2 a c).Idx → α) : (Sh3 1 a c).Idx → α :=
  fun y => v (Shape.reshapeEquiv (page_casts a c).symm y)
/-- A block of one page, without it. -/
def down {a c : ℕ} {α : Type} (w : (Sh3 1 a c).Idx → α) : (Sh2 a c).Idx → α :=
  fun x => w (Shape.reshapeEquiv (page_casts a c) x)

theorem down_up {a c : ℕ} {α : Type} (v : (Sh2 a c).Idx → α) : down (up v) = v := by
  funext x
  show v (Shape.reshapeEquiv _ (Shape.reshapeEquiv _ x)) = v x
  rw [Shape.reshapeEquiv_reshapeEquiv, Shape.reshapeEquiv_self]

theorem up_down {a c : ℕ} {α : Type} (w : (Sh3 1 a c).Idx → α) : up (down w) = w := by
  funext x
  show w (Shape.reshapeEquiv _ (Shape.reshapeEquiv _ x)) = w x
  rw [Shape.reshapeEquiv_reshapeEquiv, Shape.reshapeEquiv_self]

variable {n a c : ℕ}

/-- A page covers the elements of its rectangle, -/
theorem page_set (b : Memref sig .tc sp (Sh3 n a c) e) (i : Fin n) :
    (page b i).view.set = b.view.setOn (pageRect n a c i).set :=
  ((View.set_reshape (v := (slab b i).view) _).trans (View.set_slice b.view _))

/-- and reads what the block of one page does. -/
theorem page_read (b : Memref sig .tc sp (Sh3 n a c) e) (i : Fin n) (f : b.view.ty.Contents Val) :
    (page b i).view.read Val f = down ((slab b i).view.read Val f) := rfl

/-- An element lies on the page its first coordinate names. -/
theorem mem_page {i : Fin n} {y : (Sh3 n a c).Idx} : y ∈ (pageRect n a c i).set ↔ y 0 = i := by
  rw [show (pageRect n a c i).set = _ from rfl, Rect.mem_set_unit]
  have h1 := (y 1).isLt
  have h2 := (y 2).isLt
  constructor
  · intro h
    have := h 0
    simp at this
    exact Fin.ext (by omega)
  · rintro rfl x
    fin_cases x
    · simp
    · simpa using h1
    · simpa using h2

/-- The pages are disjoint. -/
theorem pages_disjoint (b : Memref sig .tc sp (Sh3 n a c) e) :
    ∀ i ∈ (Finset.univ : Finset (Fin n)), ∀ j ∈ (Finset.univ : Finset (Fin n)), i ≠ j →
      Disjoint (b.view.setOn (pageRect n a c i).set) (b.view.setOn (pageRect n a c j).set) := by
  intro i _ j _ hij
  refine (Finset.disjoint_map _).mpr (Finset.disjoint_left.mpr fun y hi hj => hij ?_)
  rw [← mem_page.mp hi, ← mem_page.mp hj]

/-- The pages are the buffer. -/
theorem pages_cover (b : Memref sig .tc sp (Sh3 n a c) e) :
    (Finset.univ : Finset (Fin n)).biUnion (fun i => b.view.setOn (pageRect n a c i).set) = b.view.set := by
  ext z
  simp only [Finset.mem_biUnion, Finset.mem_univ, true_and]
  constructor
  · rintro ⟨i, hi⟩
    exact View.setOn_subset_set _ _ hi
  · intro hz
    obtain ⟨y, -, rfl⟩ := Finset.mem_map.mp hz
    exact ⟨y 0, (View.mem_setOn _).mpr (mem_page.mpr rfl)⟩
end

/-! ## Ownership -/

section
variable {nD : ℕ} {τ : Topo} {sig : RefSig} {Ix : Type} [DecidableEq Ix] {Val : EltTy → Type} {Name : Type} [DecidableEq Name]
  {U : Type} [URA U] {Lvl : Type}

local notation "𝕄" => MT nD τ sig Ix Val Name U Lvl

/-- The elements of a memref on device `d`, at some contents. -/
def Own {sp : Space} {s : Shape} {e : EltTy} (d : Dev nD) (M : Memref sig .tc sp s e) : sProp 𝕄 :=
  iprop(∃ f : Buf Val (M.view.loc (d : Thread nD τ)), M.view.loc (d : Thread nD τ) ↦[M.view.set]{fullShare} f)

/-- A share of the elements of a memref on device `d`, holding `v`. -/
def Has {sp : Space} {s : Shape} {e : EltTy} (d : Dev nD) (M : Memref sig .tc sp s e) (q : PosShare TreeShare) (v : s.Idx → Val e) : sProp 𝕄 :=
  iprop(∃ f : Buf Val (M.view.loc (d : Thread nD τ)), ⌜M.view.read Val f = v⌝ ∗ M.view.loc (d : Thread nD τ) ↦[M.view.set]{q} f)

instance Own_storable {sp : Space} {s : Shape} {e : EltTy} (d : Dev nD) (M : Memref sig .tc sp s e) :
    BI.Storable (upEmb : UEmb _ 𝕄) (Own d M) := by unfold Own; infer_instance
instance Has_storable {sp : Space} {s : Shape} {e : EltTy} (d : Dev nD) (M : Memref sig .tc sp s e) (q : PosShare TreeShare) (v : s.Idx → Val e) :
    BI.Storable (upEmb : UEmb _ 𝕄) (Has d M q v) := by unfold Has; infer_instance

variable {sp sp' : Space} {s : Shape} {e : EltTy} {n a c : ℕ}

/-- What holds something is owned. -/
theorem Has_own (d : Dev nD) (M : Memref sig .tc sp s e) (v : s.Idx → Val e) : (Has d M fullShare v : sProp 𝕄) ⊢ Own d M := by
  unfold Has Own
  iintro ⟨%f, -, H⟩
  iexists f
  iexact H

/-- A buffer owned is its pages owned, -/
theorem Own_pages (d : Dev nD) (b : Memref sig .tc sp (Sh3 n a c) e) :
    (Own d b : sProp 𝕄) ⊢ bigSep Finset.univ fun i : Fin n => Own d (page b i) := by
  show iprop(∃ f : Buf Val (b.view.loc (d : Thread nD τ)), _) ⊢ _
  refine exists_elim fun f => ?_
  rw [← pages_cover b, pointsTo_biUnion _ _ (pages_disjoint b)]
  refine each fun i => ?_
  unfold Own
  rw [page_set]
  iintro H
  iexists f
  iexact H

/-- and back. -/
theorem pages_Own [∀ e, Nonempty (Val e)] (d : Dev nD) (b : Memref sig .tc sp (Sh3 n a c) e) :
    (bigSep Finset.univ fun i : Fin n => Own d (page b i)) ⊢ (Own d b : sProp 𝕄) := by
  have h : ∀ i : Fin n, (Own d (page b i) : sProp 𝕄) = iprop(∃ f : Buf Val (b.view.loc (d : Thread nD τ)),
      b.view.loc (d : Thread nD τ) ↦[b.view.setOn (pageRect n a c i).set]{fullShare} f) := fun i => by
    unfold Own; rw [page_set]
  simp only [h]
  iintro H
  ihave H := (BI.bigSep_exists_pi Finset.univ _) $$ H
  icases H with ⟨%fs, H⟩
  ihave H := (pointsTo_biUnion_join Finset.univ _ fs (fun _ => Classical.arbitrary _) (pages_disjoint b)) $$ H
  icases H with ⟨%g, -, H⟩
  unfold Own
  iexists g
  rw [pages_cover b]
  iexact H
end

end Cert.Paged

end
-- ==== Proof.Moves.lean ====
/-
  What the operations of a body do to the pages it holds: a load of a page, a store on it, the start of a copy between
  two memrefs of one device, and the wait that ends it.
-/
module

public import proofs.«01_k».proof.Proof.Pages

@[expose] public section

noncomputable section

namespace Cert.Paged

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Transfers

variable {nD : ℕ} {τ : Topo} {sig : RefSig} {Ix : Type} [DecidableEq Ix] {Val : EltTy → Type} {Name : Type} [DecidableEq Name]
  {U : Type} [URA U] {Lvl : Type} [Preorder Lvl] {Λ : Labels} {defs : Defs nD τ sig Val Λ} (𝒱 : Variants) (d : Dev nD)
  {Q : PUnit → sProp (MT nD τ sig Ix Val Name U Lvl)}

local notation "𝕄" => MT nD τ sig Ix Val Name U Lvl

variable {n a c : ℕ} {e : EltTy}

/-- A load of a page gives what it holds. -/
theorem load_page {cs : CoreSpace} {b : Memref sig .tc cs (Sh3 n a c) e} {i : Fin n} {hl : b.view.LoadsAt (pageRect n a c i).toLoadRect}
    {k : ((Sh3 1 a c).Idx → Val e) → Prog (TpuEff nD τ sig Val Λ .tc) PUnit} {q : PosShare TreeShare} {v : (Sh2 a c).Idx → Val e} :
    (Has d (page b i) q v : sProp 𝕄)
      ⊢ iprop((Has d (page b i) q v -∗ wp frame (wpE defs 𝒱 (d : Thread nD τ) none) Set.univ (k (up v)) Q)
          -∗ wp frame (wpE defs 𝒱 (d : Thread nD τ) none) Set.univ (.op (.load b (pageRect n a c i).toLoadRect hl) k) Q) := by
  unfold Has
  rw [page_set]
  iintro ⟨%f, %hf, H⟩ Hk
  iapply (wp_load 𝒱 (d : Thread nD τ) none Set.univ (m := b) (f := f) (q := q) (k := k) (le_refl (b.view.setOn (pageRect n a c i).set))) $$ H
  iintro H
  have hv : b.view.readAt Val (pageRect n a c i).toLoadRect f = up v := by
    rw [← hf]; exact (up_down _).symm
  rw [hv]
  iapply Hk
  iexists f
  isplitr
  · ipureintro; exact hf
  iexact H

/-- A load of a page owned gives something. -/
theorem load_page_any {cs : CoreSpace} {b : Memref sig .tc cs (Sh3 n a c) e} {i : Fin n} {hl : b.view.LoadsAt (pageRect n a c i).toLoadRect}
    {k : ((Sh3 1 a c).Idx → Val e) → Prog (TpuEff nD τ sig Val Λ .tc) PUnit} :
    (Own d (page b i) : sProp 𝕄)
      ⊢ iprop((∀ w, Own d (page b i) -∗ wp frame (wpE defs 𝒱 (d : Thread nD τ) none) Set.univ (k w) Q)
          -∗ wp frame (wpE defs 𝒱 (d : Thread nD τ) none) Set.univ (.op (.load b (pageRect n a c i).toLoadRect hl) k) Q) := by
  unfold Own
  rw [page_set]
  iintro ⟨%f, H⟩ Hk
  iapply (wp_load 𝒱 (d : Thread nD τ) none Set.univ (m := b) (f := f) (q := fullShare) (k := k) (le_refl (b.view.setOn (pageRect n a c i).set))) $$ H
  iintro H
  ispecialize Hk $$ %(b.view.readAt Val (pageRect n a c i).toLoadRect f)
  iapply Hk
  iexists f
  iexact H

/-- A store on a page owned leaves it holding what was stored. -/
theorem store_page {cs : CoreSpace} {b : Memref sig .tc cs (Sh3 n a c) e} {i : Fin n} {w : (Sh3 1 a c).Idx → Val e}
    {hx : (b.access (pageRect n a c i)).Stores Finset.univ} {hm}
    {k : PUnit → Prog (TpuEff nD τ sig Val Λ .tc) PUnit} :
    (Own d (page b i) : sProp 𝕄)
      ⊢ iprop((Has d (page b i) fullShare (down w) -∗ wp frame (wpE defs 𝒱 (d : Thread nD τ) none) Set.univ (k ⟨⟩) Q)
          -∗ wp frame (wpE defs 𝒱 (d : Thread nD τ) none) Set.univ (.op (.store b (pageRect n a c i) w Finset.univ hx hm) k) Q) := by
  unfold Own Has
  rw [show (page b i).view.set = (b.access (pageRect n a c i)).setOn Finset.univ from View.set_reshape _ _]
  iintro ⟨%f, H⟩ Hk
  iapply (wp_store 𝒱 (d : Thread nD τ) none Set.univ (m := b) (r := pageRect n a c i) (Mk := Finset.univ) (w := w) (f := f)
    (le_refl ((b.access (pageRect n a c i)).setOn Finset.univ))) $$ H
  iintro H
  iapply Hk
  iexists ((b.access (pageRect n a c i)).write Val f w Finset.univ)
  isplitr
  · ipureintro
    rw [page_read]
    exact congrArg down (View.read_write_univ (v := b.access (pageRect n a c i)) f w)
  iexact H

section
variable [Infinite Name] [CountersIn U] {sp sp' : Space} {s : Shape}

/-- What is in flight on a semaphore between the start of a copy and its wait: the destination holding what the source
    held, and the source back. -/
def Flying (ι : Ix) (sem : DmaSem sig) (N : ℕ) (src : Memref sig .tc sp s e) (q : PosShare TreeShare) (fs : Buf Val (src.view.loc (d : Thread nD τ)))
    (dst : Memref sig .tc sp' s e) : sProp 𝕄 :=
  Flight countersEmb (d : Thread nD τ) (.dma sem) ι N
    iprop(Has d dst fullShare (src.view.read Val fs) ∗ (src.view.loc (d : Thread nD τ) ↦[src.view.set]{q} fs))

omit [Preorder Lvl] [Infinite Name] [CountersIn U] in
/-- A memref written over holds what was written. -/
theorem written (dst : Memref sig .tc sp' s e) (fd : Buf Val (dst.view.loc (d : Thread nD τ))) (v : s.Idx → Val e) :
    (dst.view.loc (d : Thread nD τ) ↦[dst.view.set]{fullShare} (dst.view.write Val fd v Finset.univ) : sProp 𝕄) ⊢ Has d dst fullShare v := by
  unfold Has
  iintro H
  iexists _
  isplitr
  · ipureintro
    exact View.read_write_univ (v := dst.view) fd v
  iexact H

/-- The start of a copy. -/
theorem copy_start {src : Memref sig .tc sp s e} {dst : Memref sig .tc sp' s e} {sem : DmaSem sig}
    {hsrc : src.view.WordExact} {hdst : dst.view.WordExact} {hsem : DmaTarget.Typed (nD := nD) (τ := τ) (p := .tc) sp (.dma sem) (.here dst)}
    {k : PUnit → Prog (TpuEff nD τ sig Val Λ .tc) PUnit} {q : PosShare TreeShare} {fs : Buf Val (src.view.loc (d : Thread nD τ))}
    (ι : Ix) (N : ℕ) (hN : dst.view.dmaCredit = N) (hN0 : 0 < N) :
    iprop((src.view.loc (d : Thread nD τ) ↦[src.view.set]{q} fs) ∗ Own d dst ∗ semVal ((d : Thread nD τ), .dma sem) 0 : sProp 𝕄)
      ⊢ iprop((Flying d ι sem N src q fs dst -∗ wp frame (wpE defs 𝒱 (d : Thread nD τ) none) Set.univ (k ⟨⟩) Q)
          -∗ wp frame (wpE defs 𝒱 (d : Thread nD τ) none) Set.univ (.op (.enqueueDma src (.here dst) (.dma sem) hsrc hdst hsem) k) Q) := by
  unfold Own
  iintro ⟨Hs, ⟨%fd, Hd⟩, Hz⟩ Hk
  iapply (wp_dmaLocal countersEmb 𝒱 (d : Thread nD τ) none (src := src) (dst := dst) (sm := .dma sem) (fs := fs) (fd := fd)
    ι N hN hN0 (le_refl dst.view.set)) $$ [Hs Hd Hz]
  · isplitl [Hs]; · iexact Hs
    isplitl [Hd] <;> iassumption
  iintro H
  iapply Hk
  unfold Flying
  iapply (Flight_mono countersEmb (d : Thread nD τ) (sep_mono_left (written d dst fd (src.view.read Val fs)))) $$ H

/-- The wait that ends it. -/
theorem copy_wait {src : Memref sig .tc sp s e} {dst : Memref sig .tc sp' s e} {sem : DmaSem sig}
    {hsrc : src.view.WordExact} {hdst : dst.view.WordExact}
    {k : PUnit → Prog (TpuEff nD τ sig Val Λ .tc) PUnit} {q : PosShare TreeShare} {fs : Buf Val (src.view.loc (d : Thread nD τ))}
    (ι : Ix) (N : ℕ) (hN : dst.view.dmaCredit = N) {O : CellTallies nD τ sig Ix} :
    iprop(Flying d ι sem N src q fs dst ∗ (∃ W, owes (d : Thread nD τ) O W) ∗ MayWait (d : Thread nD τ) (.dma sem) ι O : sProp 𝕄)
      ⊢ iprop((iprop(Has d dst fullShare (src.view.read Val fs) ∗ (src.view.loc (d : Thread nD τ) ↦[src.view.set]{q} fs)
            ∗ semVal ((d : Thread nD τ), .dma sem) 0 ∗ (∃ W, owes (d : Thread nD τ) O W))
            -∗ wp frame (wpE defs 𝒱 (d : Thread nD τ) none) Set.univ (k ⟨⟩) Q)
          -∗ wp frame (wpE defs 𝒱 (d : Thread nD τ) none) Set.univ (.op (.waitDma2 sem src dst hsrc hdst) k) Q) := by
  unfold Flying
  iintro ⟨HF, ⟨%W, HO⟩, HM⟩ Hk
  iapply (wp_waitLocalO countersEmb 𝒱 (d : Thread nD τ) none (srcw := src) (dstw := dst) ι hN (O := O) (W := W)) $$ [HF HO HM]
  · isplitl [HF]; · iexact HF
    isplitl [HO] <;> iassumption
  iintro ⟨⟨Hd, Hs⟩, Hz, HO⟩
  iapply Hk
  isplitl [Hd]; · iexact Hd
  isplitl [Hs]; · iexact Hs
  isplitl [Hz]; · iexact Hz
  iexists _
  iexact HO
end

end Cert.Paged

end
-- ==== Proof.Plan.lean ====
/-
  The kernel's body as a plan: the same operations in the same order, grouped into the steps of its loops
  (`xStart`, `xStage`, `send`, `wStart`, `wStage`, `mulOwn`, `mulPeer`, …) over tables of the static indices, and
  the theorem that the printed body is that plan.
-/
module

public import proofs.«01_k».proof.Proof.Slab
public import proofs.«01_k».proof.Proof.Gen.KernelIdeal
public import proofs.«01_k».proof.Proof.Gen.KernelIdeal.Points
public import Idealize.ShloMosaic.Lib.Pipeline.Regions

@[expose] public section

noncomputable section

namespace Cert.KernelIdeal.Plan

open Idealize.ShloMosaic Idealize.SL.Sem
open Cert.KernelIdeal Cert.Paged
open Cert.KernelIdeal.Facts₀ Cert.KernelIdeal.Facts
open Idealize.ShloMosaic.Pipeline (chain)

variable {F : FTy → Type} [FloatOps F]

/-- What a step continues with, and what the whole body is. -/
abbrev Body (F : FTy → Type) [FloatOps F] : Type 1 := Prog (TpuEff nD τ sig (Elt F) Λ₀ .tc) PUnit

/-! ## The buffers -/

abbrev xM : Memref sig .tc .hbm S4096x1024 .f32 := Memref.whole main_arg0
abbrev wM : Memref sig .tc .hbm S4096x2048 .f32 := Memref.whole main_arg1
abbrev outM : Memref sig .tc .hbm S1024x2048 .f32 := Memref.whole main_v1
abbrev x8M : Memref sig .tc .vmem S16x256x1024 .fp8e5m2 := Memref.whole cc0_scratch0
abbrev rvM : Memref sig .tc .vmem S12x256x1024 .fp8e5m2 := Memref.whole cc0_scratch1
abbrev xsM : Memref sig .tc .vmem S16x256x1024 .f32 := Memref.whole cc0_scratch2
abbrev w8M : Memref sig .tc .vmem S4x1024x2048 .fp8e5m2 := Memref.whole cc0_scratch3
abbrev wsM : Memref sig .tc .vmem S2x512x2048 .f32 := Memref.whole cc0_scratch4
abbrev ovM : Memref sig .tc .vmem S4x256x2048 .f32 := Memref.whole cc0_scratch5

/-! ## The static indices -/

/-- The i-th block of x the kernel casts goes to the device this far on. -/
def offT : Fin 16 → Fin 4 := ![1, 3, 2, 1, 3, 2, 1, 3, 2, 1, 3, 2, 0, 0, 0, 0]
/-- and is this quarter of that device's rows, -/
def qT : Fin 16 → Fin 4 := ![0, 0, 0, 1, 1, 1, 2, 2, 2, 3, 3, 3, 0, 1, 2, 3]
/-- kept on this page of the cast buffer, the blocks to be sent -/
def pT : Fin 12 → Fin 12 := ![0, 8, 4, 1, 9, 5, 2, 10, 6, 3, 11, 7]
/-- The j-th block of w multiplied is that of the device this far back. -/
def backT : Fin 4 → Fin 4 := ![0, 1, 3, 2]
/-- The receive page of the h-th block from the j-th device. -/
def rT (h : Fin 4) : Fin 3 → Fin 12 :=
  ![⟨h.val, by omega⟩, ⟨8 + h.val, by omega⟩, ⟨4 + h.val, by omega⟩]

/-- Among the 16 pages of the cast buffer, those that are sent -/
abbrev e12 (i : Fin 12) : Fin 16 := i.castLE (by decide)
/-- and those that are kept. -/
abbrev e4 (i : Fin 4) : Fin 16 := Fin.natAdd 12 i

/-- The devices addressed, in the order of the signals, -/
def sigT (d : Dev nD) : Fin 3 → Dev nD :=
  ![⟨k0_dev1 d, k0_dev1_lt d⟩, ⟨k0_dev2 d, k0_dev2_lt d⟩, ⟨k0_dev3 d, k0_dev3_lt d⟩]
/-- and in the order of the transfers. -/
def dstT (d : Dev nD) : Fin 12 → Dev nD :=
  ![⟨k0_dev4 d, k0_dev4_lt d⟩, ⟨k0_dev5 d, k0_dev5_lt d⟩, ⟨k0_dev6 d, k0_dev6_lt d⟩, ⟨k0_dev7 d, k0_dev7_lt d⟩,
    ⟨k0_dev8 d, k0_dev8_lt d⟩, ⟨k0_dev9 d, k0_dev9_lt d⟩, ⟨k0_dev10 d, k0_dev10_lt d⟩, ⟨k0_dev11 d, k0_dev11_lt d⟩,
    ⟨k0_dev12 d, k0_dev12_lt d⟩, ⟨k0_dev13 d, k0_dev13_lt d⟩, ⟨k0_dev14 d, k0_dev14_lt d⟩, ⟨k0_dev15 d, k0_dev15_lt d⟩]

/-! ## The evidence of the packed accesses, page by page -/

theorem x8_words (i : Fin 12) : (pageRect 16 256 1024 (e12 i)).WholeWords (EltTy.packing .fp8e5m2) := by
  fin_cases i
  exacts [wordsfp8e5m2_S16x256x1024_S1x256x1024_0_0_0, wordsfp8e5m2_S16x256x1024_S1x256x1024_1_0_0,
    wordsfp8e5m2_S16x256x1024_S1x256x1024_2_0_0, wordsfp8e5m2_S16x256x1024_S1x256x1024_3_0_0,
    wordsfp8e5m2_S16x256x1024_S1x256x1024_4_0_0, wordsfp8e5m2_S16x256x1024_S1x256x1024_5_0_0,
    wordsfp8e5m2_S16x256x1024_S1x256x1024_6_0_0, wordsfp8e5m2_S16x256x1024_S1x256x1024_7_0_0,
    wordsfp8e5m2_S16x256x1024_S1x256x1024_8_0_0, wordsfp8e5m2_S16x256x1024_S1x256x1024_9_0_0,
    wordsfp8e5m2_S16x256x1024_S1x256x1024_10_0_0, wordsfp8e5m2_S16x256x1024_S1x256x1024_11_0_0]

theorem x8_packed (i : Fin 16) : (pageRect 16 256 1024 i).PackedRows (EltTy.packing .fp8e5m2) := by
  fin_cases i
  exacts [packedfp8e5m2_S16x256x1024_S1x256x1024_0_0_0, packedfp8e5m2_S16x256x1024_S1x256x1024_1_0_0,
    packedfp8e5m2_S16x256x1024_S1x256x1024_2_0_0, packedfp8e5m2_S16x256x1024_S1x256x1024_3_0_0,
    packedfp8e5m2_S16x256x1024_S1x256x1024_4_0_0, packedfp8e5m2_S16x256x1024_S1x256x1024_5_0_0,
    packedfp8e5m2_S16x256x1024_S1x256x1024_6_0_0, packedfp8e5m2_S16x256x1024_S1x256x1024_7_0_0,
    packedfp8e5m2_S16x256x1024_S1x256x1024_8_0_0, packedfp8e5m2_S16x256x1024_S1x256x1024_9_0_0,
    packedfp8e5m2_S16x256x1024_S1x256x1024_10_0_0, packedfp8e5m2_S16x256x1024_S1x256x1024_11_0_0,
    packedfp8e5m2_S16x256x1024_S1x256x1024_12_0_0, packedfp8e5m2_S16x256x1024_S1x256x1024_13_0_0,
    packedfp8e5m2_S16x256x1024_S1x256x1024_14_0_0, packedfp8e5m2_S16x256x1024_S1x256x1024_15_0_0]

theorem rv_words (i : Fin 12) : (pageRect 12 256 1024 i).WholeWords (EltTy.packing .fp8e5m2) := by
  fin_cases i
  exacts [wordsfp8e5m2_S12x256x1024_S1x256x1024_0_0_0, wordsfp8e5m2_S12x256x1024_S1x256x1024_1_0_0,
    wordsfp8e5m2_S12x256x1024_S1x256x1024_2_0_0, wordsfp8e5m2_S12x256x1024_S1x256x1024_3_0_0,
    wordsfp8e5m2_S12x256x1024_S1x256x1024_4_0_0, wordsfp8e5m2_S12x256x1024_S1x256x1024_5_0_0,
    wordsfp8e5m2_S12x256x1024_S1x256x1024_6_0_0, wordsfp8e5m2_S12x256x1024_S1x256x1024_7_0_0,
    wordsfp8e5m2_S12x256x1024_S1x256x1024_8_0_0, wordsfp8e5m2_S12x256x1024_S1x256x1024_9_0_0,
    wordsfp8e5m2_S12x256x1024_S1x256x1024_10_0_0, wordsfp8e5m2_S12x256x1024_S1x256x1024_11_0_0]

/-- A page of the cast buffer is whole words, -/
theorem x8_exact (i : Fin 12) : (page x8M (e12 i)).view.WordExact :=
  ((Memref.isWhole_whole cc0_scratch0).wordExact_slice rfl (pageRect 16 256 1024 (e12 i)) (x8_words i)).reshape _ _
/-- and so is a receive page. -/
theorem rv_exact (i : Fin 12) : (page rvM i).view.WordExact :=
  ((Memref.isWhole_whole cc0_scratch1).wordExact_slice rfl (pageRect 12 256 1024 i) (rv_words i)).reshape _ _

/-- The two halves of a page of the cast of w lie inside it, -/
theorem half_inb (j : Fin 4) (h : Fin 2) :
    ∀ a, (![j.val, 512 * h.val, 0] : Fin 3 → ℕ) a + S1x512x2048.size a ≤ S4x1024x2048.size a := by
  intro a
  have := j.isLt
  have := h.isLt
  fin_cases a <;> simp <;> omega

/-- each as a rectangle, -/
abbrev halfRect (j : Fin 4) (h : Fin 2) : Rect S4x1024x2048 :=
  Rect.unit (s := S4x1024x2048) ![j.val, 512 * h.val, 0] S1x512x2048.size (half_inb j h)

theorem half_packed (j : Fin 4) (h : Fin 2) : (halfRect j h).PackedRows (EltTy.packing .fp8e5m2) := by
  fin_cases j <;> fin_cases h
  exacts [packedfp8e5m2_S4x1024x2048_S1x512x2048_0_0_0, packedfp8e5m2_S4x1024x2048_S1x512x2048_0_512_0,
    packedfp8e5m2_S4x1024x2048_S1x512x2048_1_0_0, packedfp8e5m2_S4x1024x2048_S1x512x2048_1_512_0,
    packedfp8e5m2_S4x1024x2048_S1x512x2048_2_0_0, packedfp8e5m2_S4x1024x2048_S1x512x2048_2_512_0,
    packedfp8e5m2_S4x1024x2048_S1x512x2048_3_0_0, packedfp8e5m2_S4x1024x2048_S1x512x2048_3_512_0]

/-- A block of 256 rows of the result lies inside it. -/
theorem out_inb (h : Fin 4) : ∀ a, (![256 * h.val, 0] : Fin 2 → ℕ) a + S256x2048.size a ≤ S1024x2048.size a := by
  intro a
  have := h.isLt
  fin_cases a <;> simp <;> omega

/-! ## The steps -/

/-- The i-th block of x, in the argument. -/
abbrev xSrc (d : Dev nD) (i : Fin 16) : Memref sig .tc .hbm S256x1024 .f32 :=
  xM.slice (Rect.unit (s := S4096x1024) (k0_off1 d (BitVec.ofNat 32 (offT i).val) (BitVec.ofNat 32 (256 * (qT i).val)))
    S256x1024.size (k0_off1_inb d (offT i) (qT i))) (fun _ => rfl)

/-- The i-th half block of w, in the argument. -/
abbrev wSrc (d : Dev nD) (j : Fin 4) (h : Fin 2) : Memref sig .tc .hbm S512x2048 .f32 :=
  wM.slice (Rect.unit (s := S4096x2048) (k0_off2 d (BitVec.ofNat 32 (backT j).val) (BitVec.ofNat 32 (512 * h.val)))
    S512x2048.size (k0_off2_inb d (backT j) h)) (fun _ => rfl)

/-- A block of 256 rows of the result. -/
abbrev outRows (h : Fin 4) : Memref sig .tc .hbm S256x2048 .f32 :=
  outM.slice (Rect.unit (s := S1024x2048) ![256 * h.val, 0] S256x2048.size (out_inb h)) (fun _ => rfl)

/-- Start the copy of the i-th block of x to its staging page. -/
def xStart (d : Dev nD) (i : Fin 16) (k : Body F) : Body F :=
  .op (.enqueueDma (xSrc d i) (.here (page xsM i)) (.dma (semAt cc0_scratch6 i)) (View.wordExact_bits rfl)
    ((View.wordExact_bits rfl).reshape _ _) ⟨Or.inl rfl, trivial⟩) fun _ => k

/-- Tell a device that its pages here may be written. -/
def tell (d : Dev nD) (i : Fin 3) (k : Body F) : Body F :=
  .op (.semSignal (sigT d i, .tc) (SemArray.scalar (sig.barrier 0 rfl) : Sems sig S_).sem (1#32 : BitVec 32).toInt) fun _ => k

/-- Wait for all three devices. -/
def meet (k : Body F) : Body F :=
  .op (.semWait (SemArray.scalar (sig.barrier 0 rfl) : Sems sig S_).sem (3#32 : BitVec 32).toInt) fun _ => k

/-- The cast of a block of x, as the three-axis block that is stored. -/
def castX (v : Vec F S1x256x1024 .f32) : Vec F S1x256x1024 .fp8e5m2 :=
  shapeCast S1x256x1024 (truncf .fp8e5m2 (shapeCast S256x1024 v shapeCasts_S1x256x1024_S256x1024 : FVec F S256x1024 .f32)
    bitsLt_fp8e5m2_f32 : FVec F S256x1024 .fp8e5m2) shapeCasts_S256x1024_S1x256x1024

/-- Await the i-th block of x and keep its cast on page `p`. -/
def xStage (d : Dev nD) (i p : Fin 16) (k : Body F) : Body F :=
  .op (.waitDma2 (semAt cc0_scratch6 i) (xSrc d i) (page xsM i) (View.wordExact_bits rfl) ((View.wordExact_bits rfl).reshape _ _))
    fun _ => .op (.load xsM (pageRect 16 256 1024 i).toLoadRect (View.loadsAt_vmem h_S1x256x1024))
    fun v => .op (.load x8M (pageRect 16 256 1024 p).toLoadRect (View.loadsAt_vmem h_S1x256x1024))
    fun _ => .op (.store x8M (pageRect 16 256 1024 p) (castX v) Finset.univ
      (View.stores_vmem h_S1x256x1024 ((Memref.isWhole_whole cc0_scratch0).storeExact_slice rfl _ (x8_packed p)) (fun _ => rfl))
      (.inl rfl)) fun _ => k

/-- Send the i-th cast block. -/
def send (d : Dev nD) (i : Fin 12) (k : Body F) : Body F :=
  .op (.enqueueDma (page x8M (e12 (pT i))) (.remote (Dev.tc (dstT d i)) (page rvM (pT i)) (.dma (semAt cc0_scratch8 (pT i))))
    (.dma (semAt cc0_scratch9 (pT i))) (x8_exact _) (rv_exact _) ⟨⟨rfl, Or.inl rfl⟩, trivial⟩) fun _ => k

/-- Start the copy of a half block of w to its staging page. -/
def wStart (d : Dev nD) (j : Fin 4) (h : Fin 2) (k : Body F) : Body F :=
  .op (.enqueueDma (wSrc d j h) (.here (page wsM h)) (.dma (semAt cc0_scratch7 h)) (View.wordExact_bits rfl)
    ((View.wordExact_bits rfl).reshape _ _) ⟨Or.inl rfl, trivial⟩) fun _ => k

/-- The cast of a half block of w, as the three-axis block that is stored. -/
def castW (v : Vec F S1x512x2048 .f32) : Vec F S1x512x2048 .fp8e5m2 :=
  shapeCast S1x512x2048 (truncf .fp8e5m2 (shapeCast S512x2048 v shapeCasts_S1x512x2048_S512x2048 : FVec F S512x2048 .f32)
    bitsLt_fp8e5m2_f32 : FVec F S512x2048 .fp8e5m2) shapeCasts_S512x2048_S1x512x2048

/-- Await a half block of w and keep its cast. -/
def wStage (d : Dev nD) (j : Fin 4) (h : Fin 2) (k : Body F) : Body F :=
  .op (.waitDma2 (semAt cc0_scratch7 h) (wSrc d j h) (page wsM h) (View.wordExact_bits rfl) ((View.wordExact_bits rfl).reshape _ _))
    fun _ => .op (.load wsM (pageRect 2 512 2048 h).toLoadRect (View.loadsAt_vmem h_S1x512x2048))
    fun v => .op (.load w8M (halfRect j h).toLoadRect (View.loadsAt_vmem h_S1x512x2048))
    fun _ => .op (.store w8M (halfRect j h) (castW v) Finset.univ
      (View.stores_vmem h_S1x512x2048 ((Memref.isWhole_whole cc0_scratch3).storeExact_slice rfl _ (half_packed j h)) (fun _ => rfl))
      (.inl rfl)) fun _ => k

/-- The product of a block of x with a block of w, from the three-axis blocks loaded. -/
def dotXW (a : Vec F S1x256x1024 .fp8e5m2) (b : Vec F S1x1024x2048 .fp8e5m2) : FVec F S256x2048 .f32 :=
  matmul dot_S256x1024_S1024x2048_S256x2048_1_0_0_1_n_n none
    (shapeCast S256x1024 a shapeCasts_S1x256x1024_S256x1024 : FVec F S256x1024 .fp8e5m2)
    (shapeCast S1024x2048 b shapeCasts_S1x1024x2048_S1024x2048 : FVec F S1024x2048 .fp8e5m2)
    (constant S256x2048 .f32 0x00000000#32)

/-- The first term, as it is stored. -/
def first (t : FVec F S256x2048 .f32) : Vec F S1x256x2048 .f32 :=
  shapeCast S1x256x2048 t shapeCasts_S256x2048_S1x256x2048
/-- A further term on what has been stored, as it is stored. -/
def more (t : FVec F S256x2048 .f32) (o : Vec F S1x256x2048 .f32) : Vec F S1x256x2048 .f32 :=
  shapeCast S1x256x2048 (addf (shapeCast S256x2048 o shapeCasts_S1x256x2048_S256x2048 : FVec F S256x2048 .f32) t : FVec F S256x2048 .f32)
    shapeCasts_S256x2048_S1x256x2048
/-- The last term on what has been stored, scaled and cut off at zero, as it is stored. -/
def last (s : F .f32) (t : FVec F S256x2048 .f32) (o : Vec F S1x256x2048 .f32) : Vec F S1x256x2048 .f32 :=
  shapeCast S1x256x2048 (maximumf (mulf (addf (shapeCast S256x2048 o shapeCasts_S1x256x2048_S256x2048 : FVec F S256x2048 .f32) t : FVec F S256x2048 .f32)
      (broadcast S256x2048 s : FVec F S256x2048 .f32) : FVec F S256x2048 .f32)
      (broadcast S256x2048 (Scalar.ofBits .f32 0x00000000#32 : F .f32) : FVec F S256x2048 .f32) : FVec F S256x2048 .f32)
    shapeCasts_S256x2048_S1x256x2048

/-- Store on a page of the output staging. -/
def ovStore (h : Fin 4) (v : Vec F S1x256x2048 .f32) (k : Body F) : Body F :=
  .op (.store ovM (pageRect 4 256 2048 h) v Finset.univ (View.stores_vmem_bits_univ h_S1x256x2048 rfl) (.inl rfl)) fun _ => k

/-- Load a page of the output staging. -/
def ovLoad (h : Fin 4) (k : Vec F S1x256x2048 .f32 → Body F) : Body F :=
  .op (.load ovM (pageRect 4 256 2048 h).toLoadRect (View.loadsAt_vmem h_S1x256x2048)) k

/-- Load a page of the cast of w. -/
def w8Load (j : Fin 4) (k : Vec F S1x1024x2048 .fp8e5m2 → Body F) : Body F :=
  .op (.load w8M (pageRect 4 1024 2048 j).toLoadRect (View.loadsAt_vmem h_S1x1024x2048)) k

/-- The term of the device's own block. -/
def mulOwn (h : Fin 4) (k : Body F) : Body F :=
  .op (.load x8M (pageRect 16 256 1024 (e4 h)).toLoadRect (View.loadsAt_vmem h_S1x256x1024)) fun a =>
    w8Load 0 fun b => ovLoad h fun _ => ovStore h (first (dotXW a b)) k

/-- The term of a block another device sent: awaited on receive page `p`, multiplied by page `j` of w, combined by `g`. -/
def mulPeer (h : Fin 4) (p : Fin 12) (j : Fin 4) (g : FVec F S256x2048 .f32 → Vec F S1x256x2048 .f32 → Vec F S1x256x2048 .f32)
    (k : Body F) : Body F :=
  .op (.waitDma2 (semAt cc0_scratch9 p) (page x8M (e12 p)) (page rvM p) (x8_exact _) (rv_exact _)) fun _ =>
    .op (.load rvM (pageRect 12 256 1024 p).toLoadRect (View.loadsAt_vmem h_S1x256x1024)) fun a =>
    w8Load j fun b => ovLoad h fun o => ovLoad h fun _ => ovStore h (g (dotXW a b) o) k

/-- Start the copy of a finished page to the result. -/
def outStart (h : Fin 4) (k : Body F) : Body F :=
  .op (.enqueueDma (page ovM h) (.here (outRows h)) (.dma (semAt cc0_scratch10 h)) ((View.wordExact_bits rfl).reshape _ _)
    (View.wordExact_bits rfl) ⟨Or.inl rfl, trivial⟩) fun _ => k

/-- Await that copy. -/
def outWait (h : Fin 4) (k : Body F) : Body F :=
  .op (.waitDma2 (semAt cc0_scratch10 h) (page ovM h) (outRows h) ((View.wordExact_bits rfl).reshape _ _) (View.wordExact_bits rfl))
    fun _ => k

/-- Await that the i-th cast block has left. -/
def sendWait (i : Fin 12) (k : Body F) : Body F :=
  .op (.waitDma2 (semAt cc0_scratch8 (pT i)) (page rvM (pT i)) (page x8M (e12 (pT i))) (rv_exact _) (x8_exact _)) fun _ => k

/-- All four terms of the h-th block of rows of the result, and its copy started. -/
def rowBlock (s : F .f32) (h : Fin 4) (k : Body F) : Body F :=
  mulOwn h <| mulPeer h (rT h 0) 1 more <| mulPeer h (rT h 1) 2 more <| mulPeer h (rT h 2) 3 (last s) <| outStart h k

/-- Read the one word of a staged scalar. -/
def scalarLoad (s : Memref sig .tc .smem S1 .f32) (k : F .f32 → Body F) : Body F :=
  .op (.load s (Rect.unit (s := S1) ![0] S1.size inb_S1_S1_0)
    (View.loadsAt_rect (View.loads_smem_one (v := s.access (Rect.unit (s := S1) ![0] S1.size inb_S1_S1_0)) rfl numel1_S1)))
    fun f => k (f (Shape.Idx.first (numel1_S1.symm ▸ Nat.one_pos)))

/-- Which half block of w the i-th step of its loop handles. -/
def jT : Fin 8 → Fin 4 := ![0, 0, 1, 1, 2, 2, 3, 3]
def hT : Fin 8 → Fin 2 := ![0, 1, 0, 1, 0, 1, 0, 1]

/-- The whole body. -/
def plan (s2 s3 : Memref sig .tc .smem S1 .f32) : Body F :=
  .op .deviceId fun d =>
  rep 16 (xStart d) <| rep 3 (tell d) <| meet <|
  rep 12 (fun i k => xStage d (e12 i) (e12 (pT i)) (send d i k)) <|
  rep 4 (fun i k => xStage d (e4 i) (e4 i) k) <|
  wStart d 0 0 <|
  rep 7 (fun i k => wStart d (jT i.succ) (hT i.succ) (wStage d (jT i.castSucc) (hT i.castSucc) k)) <|
  wStage d 3 1 <|
  scalarLoad s2 fun a => scalarLoad s3 fun b =>
  rep 4 (rowBlock (Scalar.mulf a b)) <| rep 4 outWait <| rep 12 sendWait <| .ret ⟨⟩

/-- The printed body is the plan. -/
theorem body_eq_plan (s2 s3 : Memref sig .tc .smem S1 .f32) (h2 : s2.IsWhole) (h3 : s3.IsWhole) :
    cc0_body (F := F) xM (Memref.isWhole_whole _) wM (Memref.isWhole_whole _) s2 h2 s3 h3 outM (Memref.isWhole_whole _)
      x8M (Memref.isWhole_whole _) rvM (Memref.isWhole_whole _) xsM (Memref.isWhole_whole _) w8M (Memref.isWhole_whole _)
      wsM (Memref.isWhole_whole _) ovM (Memref.isWhole_whole _) cc0_scratch6 cc0_scratch7 cc0_scratch8 cc0_scratch9 cc0_scratch10
      = plan s2 s3 := by
  chain_rfl

end Cert.KernelIdeal.Plan

end
-- ==== Proof.Protocol.lean ====
/-
  The protocol of the kernel: who signals whom, what each semaphore hands over, and what each device owes.

  Every device tells each other device once that the receive pages it will write are free (the barrier), sends each of
  its twelve cast blocks once, and awaits its twelve receive pages. One round of every semaphore is used.
-/
module

public import proofs.«01_k».proof.Proof.Plan
public import proofs.«01_k».proof.Proof.Moves
public import proofs.«01_k».proof.Proof.Gen.KernelIdeal.Launch
public import Idealize.ShloMosaic.Lib.Pipeline.Launch
public import Idealize.ShloMosaic.Lib.Pipeline.Kit

@[expose] public section

noncomputable section

namespace Cert.KernelIdeal.Protocol

open Cert.KernelIdeal Cert.KernelIdeal.Plan Cert.Paged
open Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## The algebra -/

/-- The rounds of the kernel's own semaphores, one duty per device, -/
abbrev UB : Type := URounds (GSem nD τ sig) (Dev nD)
/-- beside those of the staging and the counters of the copies in flight. -/
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the rounds of the kernel's own semaphores lie. -/
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance

/-! ## The devices and the pages -/

/-- The device whose block arrives on receive page `p` of device `c`. -/
def srcP (c : Dev nD) (p : Fin 12) : Dev nD := ⟨(c.val + 3 - p.val / 4) % 4, Nat.mod_lt _ (by decide)⟩
/-- The transfer that fills receive page `p`. -/
def iT : Fin 12 → Fin 12 := ![0, 3, 6, 9, 2, 5, 8, 11, 1, 4, 7, 10]

theorem iT_pT (i : Fin 12) : iT (pT i) = i := by revert i; decide
theorem pT_iT (p : Fin 12) : pT (iT p) = p := by revert p; decide
/-- The order of the transfers, as a permutation of the pages. -/
def pE : Fin 12 ≃ Fin 12 := ⟨pT, iT, iT_pT, pT_iT⟩

set_option maxRecDepth 20000 in
theorem dstT_eq (d c : Dev nD) (i : Fin 12) : dstT d i = c ↔ d = srcP c (pT i) := by revert d c i; decide
theorem srcP_dstT (d : Dev nD) (i : Fin 12) : srcP (dstT d i) (pT i) = d := ((dstT_eq d _ i).mp rfl).symm
theorem dstT_ne (d : Dev nD) (i : Fin 12) : dstT d i ≠ d := by revert d i; decide
theorem sigT_ne (d : Dev nD) (k : Fin 3) : sigT d k ≠ d := by revert d k; decide
theorem sigT_inj (d : Dev nD) (k k' : Fin 3) (h : sigT d k = sigT d k') : k = k' := by revert d k k'; decide
theorem sigT_onto (d c : Dev nD) (h : c ≠ d) : ∃ k, sigT d k = c := by revert d c; decide

/-! ## The semaphores -/

/-- The barrier semaphore. -/
abbrev barS : Sem sig := (SemArray.scalar (sig.barrier 0 rfl) : Sems sig S_).sem
abbrev sendS (p : Fin 12) : DmaSem sig := semAt cc0_scratch8 p
abbrev recvS (p : Fin 12) : DmaSem sig := semAt cc0_scratch9 p

abbrev barCell (c : Dev nD) : GSem nD τ sig := ((c : Thread nD τ), .reg barS)
abbrev sendCell (c : Dev nD) (p : Fin 12) : GSem nD τ sig := ((c : Thread nD τ), .dma (sendS p))
abbrev recvCell (c : Dev nD) (p : Fin 12) : GSem nD τ sig := ((c : Thread nD τ), .dma (recvS p))

/-- What a semaphore is for. -/
inductive Role where
  | bar | send (p : Fin 12) | recv (p : Fin 12) | none
  deriving DecidableEq

/-- What each semaphore is for. -/
def role : SemLoc sig → Role
  | .reg _ => .bar
  | .dma s => if h : 20 ≤ s.val ∧ s.val < 32 then .send ⟨s.val - 20, by omega⟩
    else if h : 32 ≤ s.val ∧ s.val < 44 then .recv ⟨s.val - 32, by omega⟩ else .none

theorem role_send (p : Fin 12) : role (.dma (sendS p)) = .send p := by revert p; decide
theorem role_recv (p : Fin 12) : role (.dma (recvS p)) = .recv p := by revert p; decide
theorem role_x (i : Fin 16) : role (.dma (semAt cc0_scratch6 i)) = .none := by revert i; decide
theorem role_w (i : Fin 2) : role (.dma (semAt cc0_scratch7 i)) = .none := by revert i; decide
theorem role_o (i : Fin 4) : role (.dma (semAt cc0_scratch10 i)) = .none := by revert i; decide

/-- The units a page's transfer counts. -/
abbrev N : ℕ := (page rvM 0).view.dmaCredit
theorem N_pos : 0 < N := View.dmaCredit_pos _ (by decide)
theorem N_rv (p : Fin 12) : (page rvM p).view.dmaCredit = N := rfl
theorem N_x8 (p : Fin 16) : (page x8M p).view.dmaCredit = N := rfl

/-! ## The contents -/

variable (m : (ℓ : Loc nD τ sig) → Buf (Elt F) ℓ) (ρ : Dev nD → PrngReg)

/-- The i-th block of x on device `d`, -/
def XB (d : Dev nD) (i : Fin 16) : Vec F S256x1024 .f32 :=
  (xSrc d i).view.read (Elt F) (m ((d : Thread nD τ).loc main_arg0))
/-- the block kept on page `p` of the cast buffer, -/
def blockOf : Fin 16 → Fin 16 := ![0, 3, 6, 9, 2, 5, 8, 11, 1, 4, 7, 10, 12, 13, 14, 15]
/-- and its cast. -/
def X8 (d : Dev nD) (p : Fin 16) : FVec F S256x1024 .fp8e5m2 :=
  truncf .fp8e5m2 (XB m d (blockOf p) : FVec F S256x1024 .f32) bitsLt_fp8e5m2_f32

theorem blockOf_sent (i : Fin 12) : blockOf (e12 (pT i)) = e12 i := by revert i; decide
theorem blockOf_kept (i : Fin 4) : blockOf (e4 i) = e4 i := by revert i; decide

/-! ## The schedule -/

/-- What device `c` hands device `e` at the barrier: its receive pages that `e` will write, their semaphores at their
    first round. -/
def barPay (e c : Dev nD) : sProp 𝕄 :=
  bigSep (Finset.univ.filter fun i : Fin 12 => dstT e i = c) fun i =>
    iprop(Own (dstT e i) (page rvM (pT i)) ∗ reached ER (recvCell (dstT e i) (pT i)) 0)

/-- What the receive semaphore of page `p` hands its device: the page, holding the block sent. -/
def recvPay (c : Dev nD) (p : Fin 12) : sProp 𝕄 := Has c (page rvM p) fullShare (X8 m (srcP c p) (e12 p))

/-- What the send semaphore hands back: the page sent. -/
def sendPay (c : Dev nD) (p : Fin 12) : sProp 𝕄 := Own c (page x8M (e12 p))

/-- One round of every semaphore: at the barrier a unit from every other device, at a page's semaphores its transfer. -/
def Rd : Rounds.Schedule (GSem nD τ sig) (Dev nD) 𝕄 where
  duties g r := if r = 0 ∧ g.1.2 = .tc then
      match role g.2 with
      | .bar => Finset.univ.erase g.1.1
      | .send _ => {0}
      | .recv _ => {0}
      | .none => ∅
    else ∅
  unitless _ := False
  amount g _ _ := match role g.2 with
    | .bar => 1
    | _ => N
  payload g _ d := match role g.2 with
    | .bar => barPay g.1.1 d
    | .send p => sendPay g.1.1 p
    | .recv p => recvPay m g.1.1 p
    | .none => iprop(emp)
  amount_pos g _ _ _ := by
    cases role g.2
    exacts [Nat.one_pos, N_pos, N_pos, N_pos]

instance Rd_storable (g : GSem nD τ sig) (r : ℕ) (d : Dev nD) : BI.Storable (upEmb : UEmb _ 𝕄) ((Rd (F := F) m).payload g r d) := by
  show BI.Storable upEmb (match role g.2 with
    | .bar => barPay g.1.1 d
    | .send p => sendPay g.1.1 p
    | .recv p => recvPay m g.1.1 p
    | .none => iprop(emp))
  unfold barPay sendPay recvPay
  split <;> infer_instance

section
variable (c : Dev nD) (p : Fin 12)

theorem duties_bar : (Rd (F := F) m).duties (barCell c) 0 = Finset.univ.erase c := by
  dsimp only [Rd]; rw [if_pos ⟨rfl, rfl⟩]; rfl
theorem duties_send : (Rd (F := F) m).duties (sendCell c p) 0 = {0} := by
  dsimp only [Rd]; rw [if_pos ⟨rfl, rfl⟩, role_send]
theorem duties_recv : (Rd (F := F) m).duties (recvCell c p) 0 = {0} := by
  dsimp only [Rd]; rw [if_pos ⟨rfl, rfl⟩, role_recv]
theorem duties_later (g : GSem nD τ sig) : ∀ r, 1 ≤ r → (Rd (F := F) m).duties g r = ∅ :=
  fun r hr => by dsimp only [Rd]; exact if_neg fun h => by omega

theorem amount_bar (d : Dev nD) : (Rd (F := F) m).amount (barCell c) 0 d = 1 := rfl
theorem amount_send (d : Dev nD) : (Rd (F := F) m).amount (sendCell c p) 0 d = N := by dsimp only [Rd]; rw [role_send]
theorem amount_recv (d : Dev nD) : (Rd (F := F) m).amount (recvCell c p) 0 d = N := by dsimp only [Rd]; rw [role_recv]

theorem payload_bar (d : Dev nD) : (Rd (F := F) m).payload (barCell c) 0 d = barPay c d := rfl
theorem payload_send (d : Dev nD) : (Rd (F := F) m).payload (sendCell c p) 0 d = sendPay c p := by dsimp only [Rd]; rw [role_send]
theorem payload_recv (d : Dev nD) : (Rd (F := F) m).payload (recvCell c p) 0 d = recvPay m c p := by dsimp only [Rd]; rw [role_recv]

theorem expect_bar : (Rd (F := F) m).expect (barCell c) 0 = 3 := by
  unfold Schedule.expect Schedule.amountOf
  rw [duties_bar, Finset.sum_congr rfl fun d _ => amount_bar m c d]
  revert c; decide
theorem expect_send : (Rd (F := F) m).expect (sendCell c p) 0 = N := by
  unfold Schedule.expect Schedule.amountOf; rw [duties_send, Finset.sum_singleton, amount_send]
theorem expect_recv : (Rd (F := F) m).expect (recvCell c p) 0 = N := by
  unfold Schedule.expect Schedule.amountOf; rw [duties_recv, Finset.sum_singleton, amount_recv]

theorem rest_send : bigSep ((Rd (F := F) m).duties (sendCell c p) 0 \ ∅) (fun u => (Rd (F := F) m).payload (sendCell c p) 0 u) = sendPay c p := by
  rw [Finset.sdiff_empty, duties_send, bigSep_singleton, payload_send]
theorem rest_recv : bigSep ((Rd (F := F) m).duties (recvCell c p) 0 \ ∅) (fun u => (Rd (F := F) m).payload (recvCell c p) 0 u) = recvPay m c p := by
  rw [Finset.sdiff_empty, duties_recv, bigSep_singleton, payload_recv]
end

/-! ## What is owed, and the order of the waits -/

/-- The terms of a sum from the k-th on. -/
def tail {n : ℕ} {A : Type} [AddCommMonoid A] (f : Fin n → A) (k : ℕ) : A := ∑ i ∈ Finset.univ.filter (fun i : Fin n => k ≤ i.val), f i

theorem tail_step {n : ℕ} {A : Type} [AddCommMonoid A] (f : Fin n → A) (i : Fin n) : tail f i.val = tail f (i.val + 1) + f i := by
  unfold tail
  rw [add_comm, ← Finset.sum_insert (by simp)]
  congr 1
  ext j
  simp only [Finset.mem_filter, Finset.mem_univ, true_and, Finset.mem_insert, Fin.ext_iff]
  omega
theorem tail_end {n : ℕ} {A : Type} [AddCommMonoid A] (f : Fin n → A) : tail f n = 0 := by
  unfold tail
  rw [Finset.filter_false_of_mem fun i _ => by have := i.isLt; omega, Finset.sum_empty]
theorem tail_zero {n : ℕ} {A : Type} [AddCommMonoid A] (f : Fin n → A) : tail f 0 = ∑ i, f i := by
  unfold tail
  rw [Finset.filter_true_of_mem fun i _ => Nat.zero_le _]

/-- Device `d` owes each other device a unit at the barrier -/
def barOwe (d : Dev nD) (k : Fin 3) : CellTallies nD τ sig Unit := tallyAt (barCell (sigT d k)) () 1
/-- and every page it will send its transfer. -/
def sendOwe (d : Dev nD) (i : Fin 12) : CellTallies nD τ sig Unit := tallyAt (recvCell (dstT d i) (pT i)) () N
/-- All of it. -/
def O₀ (d : Dev nD) : CellTallies nD τ sig Unit := tail (sendOwe d) 0 + tail (barOwe d) 0

def L (g : GSem nD τ sig) : Finset Unit := if g.1.2 = .tc then {()} else ∅
/-- The barrier is awaited before the pages, and everything else before both. -/
def lv (g : GSem nD τ sig) (_ : Unit) : ℕ := match role g.2 with
  | .bar => 1
  | .recv _ => 2
  | _ => 0
theorem L_of_ne (g : GSem nD τ sig) (h : g.1.2 ≠ .tc) : L g = ∅ := if_neg h
theorem L_tc (c : Dev nD) (sm : SemLoc sig) : L ((c : Thread nD τ), sm) = {()} := if_pos rfl

theorem tail_pos {n : ℕ} (f : Fin n → CellTallies nD τ sig Unit) (k : ℕ) {g : GSem nD τ sig} {u : Unit} (h : 0 < tail f k g u) :
    ∃ i, 0 < f i g u := by
  unfold tail at h
  rw [Finset.sum_apply, Finsupp.finset_sum_apply] at h
  obtain ⟨i, -, hi⟩ := Finset.exists_ne_zero_of_sum_ne_zero h.ne'
  exact ⟨i, Nat.pos_of_ne_zero hi⟩

theorem tally_pos {g g' : GSem nD τ sig} {u u' : Unit} {n : ℕ} (h : 0 < (tallyAt g u n : CellTallies nD τ sig Unit) g' u') : g' = g := by
  rw [tallyAt_apply] at h
  by_contra hn
  rw [if_neg fun h' => hn h'.1] at h
  exact Nat.lt_irrefl 0 h

theorem sendOwe_pos {d : Dev nD} {k : ℕ} {g : GSem nD τ sig} {u : Unit} (h : 0 < tail (sendOwe d) k g u) : ∃ c p, g = recvCell c p := by
  obtain ⟨i, hi⟩ := tail_pos _ _ h
  exact ⟨_, _, tally_pos hi⟩
theorem barOwe_pos {d : Dev nD} {k : ℕ} {g : GSem nD τ sig} {u : Unit} (h : 0 < tail (barOwe d) k g u) : ∃ c, g = barCell c := by
  obtain ⟨i, hi⟩ := tail_pos _ _ h
  exact ⟨_, tally_pos hi⟩

/-- A copy of the device's own, or the barrier, may be awaited while transfers are owed. -/
theorem may_wait (c : Dev nD) (d : Dev nD) (k : ℕ) (sm : SemLoc sig) (h : lv ((c : Thread nD τ), sm) () ≤ 1) :
    (levAts L lv : sProp 𝕄) ⊢ MayWait (c : Thread nD τ) sm () (tail (sendOwe d) k) :=
  MayOwe.of_cut (L := L) (lev := lv) 1 (fun p hp => by rw [Finset.mem_singleton.mp hp, L_tc]; exact Finset.mem_singleton_self _)
    (fun g u hg => by obtain ⟨c', p, rfl⟩ := sendOwe_pos hg; exact Finset.mem_singleton_self _)
    (fun p hp => by rw [Finset.mem_singleton.mp hp]; exact h)
    (fun g u hg => by obtain ⟨c', p, rfl⟩ := sendOwe_pos hg; show 1 < lv _ _; unfold lv; rw [role_recv]; exact Nat.one_lt_two)

/-- The staging may be awaited while anything is owed. -/
theorem may_stage (c : Dev nD) (sm : SemLoc sig) (h : lv ((c : Thread nD τ), sm) () = 0) (O : CellTallies nD τ sig Unit)
    (hO : O = O₀ c ∨ O = 0) : (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; exact h.le) (fun g u hg => ?_) <;>
    · unfold O₀ at hg
      rw [Pi.add_apply, Finsupp.add_apply] at hg
      rcases Nat.pos_iff_ne_zero.mp hg |> fun h => (Nat.add_eq_zero_iff.not.mp h) |> not_and_or.mp with h | h
      · obtain ⟨c', p, rfl⟩ := sendOwe_pos (Nat.pos_of_ne_zero h)
        first | exact Finset.mem_singleton_self _ | (unfold lv; rw [role_recv]; exact Nat.two_pos)
      · obtain ⟨c', rfl⟩ := barOwe_pos (Nat.pos_of_ne_zero h)
        first | exact Finset.mem_singleton_self _ | (show 0 < 1; decide)
  · rw [MayWait_zero]; iintro -; iempintro

end Cert.KernelIdeal.Protocol

end
-- ==== Proof.Steps.lean ====
/-
  What each step of the kernel's plan does: the exchange between the devices, and the staging of the blocks.
-/
module

public import proofs.«01_k».proof.Proof.Protocol

@[expose] public section

noncomputable section

namespace Cert.KernelIdeal.Protocol

open Cert.KernelIdeal Cert.KernelIdeal.Plan Cert.Paged
open Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

/-! ## The semaphores with rounds -/

/-- The semaphores of a device that have rounds: the barrier's, the twelve of the pages sent, the twelve of the pages received. -/
abbrev Cell : Type := Unit ⊕ (Fin 12 ⊕ Fin 12)
def cellLoc : Cell → SemLoc sig
  | .inl _ => .reg barS
  | .inr (.inl p) => .dma (sendS p)
  | .inr (.inr p) => .dma (recvS p)
abbrev kcell (ck : Dev nD × Cell) : GSem nD τ sig := ((ck.1 : Thread nD τ), cellLoc ck.2)

variable (K : Dev nD × Cell → ℕ)

/-- What every device knows: every semaphore's invariant, that it has reached its first round, and the order of the waits. -/
def Rec : sProp 𝕄 :=
  iprop((bigSep Finset.univ fun ck => cellInv ER (Rd m) (K ck) (kcell ck)) ∗ (bigSep Finset.univ fun ck => reached ER (kcell ck) 0) ∗ levAts L lv)
instance Rec_persistent : BI.Persistent (Rec m K) := by unfold Rec; infer_instance

theorem Rec_inv (ck : Dev nD × Cell) : Rec m K ⊢ cellInv ER (Rd m) (K ck) (kcell ck) := by
  unfold Rec
  iintro ⟨H, -⟩
  iapply (one (fun ck => cellInv ER (Rd m) (K ck) (kcell ck)) (Finset.mem_univ ck)) $$ H
theorem Rec_reached (ck : Dev nD × Cell) : Rec m K ⊢ reached ER (kcell ck) 0 := by
  unfold Rec
  iintro ⟨-, H, -⟩
  iapply (one (fun ck : Dev nD × Cell => reached ER (kcell ck) 0) (Finset.mem_univ ck)) $$ H
theorem Rec_lev : Rec m K ⊢ levAts L lv := by
  unfold Rec
  iintro ⟨-, -, H⟩
  iexact H

abbrev barK (c : Dev nD) : Dev nD × Cell := (c, .inl ())
abbrev sendK (c : Dev nD) (p : Fin 12) : Dev nD × Cell := (c, .inr (.inl p))
abbrev recvK (c : Dev nD) (p : Fin 12) : Dev nD × Cell := (c, .inr (.inr p))

/-- The semaphore's rounds are over once its one round has been awaited. -/
theorem close (ck : Dev nD × Cell) : iprop(Rec m K ∗ atPos ER (kcell ck) 1 ∅ 0) ⊢ iprop(|={Set.univ}=> semVal (kcell ck) 0) := by
  iintro ⟨#Hr, Hat⟩
  ihave #Hi := (Rec_inv m K ck) $$ Hr
  imod (Rounds.cell_close ER (Rd m) (Set.mem_univ (K ck)) (fun h => h) (R := 0 + 1) (duties_later m (kcell ck))) $$ [Hat] with Hz
  · isplitr; · iexact Hi
    iexact Hat
  imodintro
  iexact Hz

/-! ## The steps -/

abbrev 𝒱₀ : Variants := Variants.none
/-- What the body from `k` on needs. -/
abbrev wp₀ (d : Dev nD) (Q : PUnit.{1} → sProp 𝕄) (k : Body F) : sProp 𝕄 :=
  wp frame (wpE (defs₀ (F := F)) 𝒱₀ (d : Thread nD τ) none) Set.univ k Q

/-- What a device owes, whatever it has waited on. -/
def Owing (d : Dev nD) (O : CellTallies nD τ sig Unit) : sProp 𝕄 := iprop(∃ W, owes (d : Thread nD τ) O W)

variable (d : Dev nD) (k : Body F)

/-- The units the copy of a block of x counts. -/
def NX : ℕ := (page xsM 0).view.dmaCredit
theorem NX_eq (i : Fin 16) : (page xsM i).view.dmaCredit = NX := rfl
theorem NX_pos : 0 < NX := View.dmaCredit_pos _ (by decide)

/-- A share of the i-th block of x. -/
def xTok (i : Fin 16) : sProp 𝕄 :=
  (xSrc d i).view.loc (d : Thread nD τ) ↦[(xSrc d i).view.set]{shareTok fullShare 16 i} m ((d : Thread nD τ).loc main_arg0)
/-- The copy of the i-th block of x under way. -/
def xFly (i : Fin 16) : sProp 𝕄 :=
  Flying d () (semAt cc0_scratch6 i) NX (xSrc d i) (shareTok fullShare 16 i) (m ((d : Thread nD τ).loc main_arg0)) (page xsM i)

theorem xStart_rule (Q : PUnit.{1} → sProp 𝕄) (i : Fin 16) :
    iprop(xTok m d i ∗ Own d (page xsM i) ∗ semVal ((d : Thread nD τ), .dma (semAt cc0_scratch6 i)) 0)
      ⊢ iprop((xFly m d i -∗ wp₀ d Q k) -∗ wp₀ d Q (xStart d i k)) := by
  unfold xTok xFly xStart
  iintro H Hk
  iapply (copy_start 𝒱₀ d (src := xSrc d i) (dst := page xsM i) (sem := semAt cc0_scratch6 i) (q := shareTok fullShare 16 i)
    (fs := m ((d : Thread nD τ).loc main_arg0)) () NX (NX_eq i) NX_pos) $$ H
  iintro H
  iapply Hk
  iexact H

theorem tell_rule (Q : PUnit.{1} → sProp 𝕄) (i : Fin 3) :
    iprop(Rec m K ∗ barPay (sigT d i) d ∗ dutyTok ER (barCell (sigT d i)) 0 d ∗ Owing d (tail (sendOwe d) 0 + tail (barOwe d) i.val))
      ⊢ iprop((Owing d (tail (sendOwe d) 0 + tail (barOwe d) (i.val + 1)) -∗ wp₀ d Q k) -∗ wp₀ d Q (tell d i k)) := by
  unfold Owing tell
  iintro ⟨#Hr, Hp, Ht, %W, HO⟩ Hk
  iapply (Rounds.wp_signal 𝒱₀ ER (Rd m) (d : Thread nD τ) none (dst := (sigT d i : Thread nD τ)) (κ := K (barK (sigT d i)))
      (d := d) (r := 0) (by rw [duties_bar]; exact Finset.mem_erase.mpr ⟨(sigT_ne d i).symm, Finset.mem_univ _⟩)
      ((amount_bar m (sigT d i) d).trans (by decide)) () (tail (sendOwe d) 0 + tail (barOwe d) (i.val + 1))
      (O₀ := tail (sendOwe d) 0 + tail (barOwe d) i.val) (by rw [tail_step (barOwe d) i, ← add_assoc]; rfl)) $$ [HO Ht Hp]
  · isplitr; · iapply (Rec_inv m K (barK (sigT d i))) $$ Hr
    isplitl [HO]; · iexact HO
    isplitl [Ht]; · iexact Ht
    isplitl [Hp]; · rw [payload_bar]; iexact Hp
    iapply (Rec_reached m K (barK (sigT d i))) $$ Hr
  iintro HO
  iapply Hk
  iexists W
  iexact HO

/-- After the barrier the device holds the twelve pages it will write, on the devices it will send to. -/
def dests : sProp 𝕄 := bigSep Finset.univ fun i : Fin 12 =>
  iprop(Own (dstT d i) (page rvM (pT i)) ∗ reached ER (recvCell (dstT d i) (pT i)) 0)

theorem image_dstT : Finset.univ.image (fun i : Fin 12 => dstT d i) = Finset.univ.erase d := by revert d; decide

theorem rest_bar : bigSep ((Rd (F := F) m).duties (barCell d) 0 \ ∅) (fun u => (Rd (F := F) m).payload (barCell d) 0 u) ⊢ dests d := by
  rw [Finset.sdiff_empty, duties_bar]
  simp only [payload_bar]
  unfold dests barPay
  rw [bigSep_fiberwise Finset.univ (fun i : Fin 12 => dstT d i), image_dstT]

theorem meet_rule (Q : PUnit.{1} → sProp 𝕄) :
    iprop(Rec m K ∗ cred (tallyAt (barCell d) () 3) ∗ atPos ER (barCell d) 0 ∅ 0 ∗ Owing d (tail (sendOwe d) 0))
      ⊢ iprop((iprop(dests d ∗ atPos ER (barCell d) 1 ∅ 0 ∗ Owing d (tail (sendOwe d) 0)) -∗ wp₀ d Q k) -∗ wp₀ d Q (meet k)) := by
  unfold Owing meet
  iintro ⟨#Hr, Hc, Hat, %W, HO⟩ Hk
  iapply (Rounds.wp_wait_rest_token 𝒱₀ ER (Rd m) (d : Thread nD τ) none (κ := K (barK d))
      (wpE_semWait_eq 𝒱₀ (d : Thread nD τ) none Set.univ) (Set.mem_univ _) () (O := tail (sendOwe d) 0) (W := W) (R := 0) (m := 0) (T := ∅)
      (by rw [expect_bar]; decide)) $$ [Hc HO Hat]
  · isplitr; · iapply (Rec_inv m K (barK d)) $$ Hr
    isplitl [Hc]; · iexact Hc
    isplitl [HO]; · iexact HO
    isplitr
    · ihave Hl := (Rec_lev m K) $$ Hr
      iapply (may_wait d d 0 (.reg barS) (le_refl 1)) $$ Hl
    iexact Hat
  iintro ⟨HO, Hat, -, Hp⟩
  iapply Hk
  isplitl [Hp]; · iapply (rest_bar m d) $$ Hp
  isplitl [Hat]; · iexact Hat
  iexists _
  iexact HO

theorem castX_up (v : Vec F S256x1024 .f32) :
    down (castX (up v : Vec F S1x256x1024 .f32)) = (truncf .fp8e5m2 (v : FVec F S256x1024 .f32) bitsLt_fp8e5m2_f32 : FVec F S256x1024 .fp8e5m2) :=
  (congrArg (fun w : Vec F S256x1024 .f32 => down (up (truncf .fp8e5m2 (w : FVec F S256x1024 .f32) bitsLt_fp8e5m2_f32 : FVec F S256x1024 .fp8e5m2)))
    (down_up v)).trans (down_up _)

/-- The i-th block of x awaited and its cast kept on page `p`. -/
theorem xStage_rule (Q : PUnit.{1} → sProp 𝕄) (i p : Fin 16) (hp : blockOf p = i) (n : ℕ) :
    iprop(Rec m K ∗ xFly m d i ∗ Own d (page x8M p) ∗ Owing d (tail (sendOwe d) n))
      ⊢ iprop((iprop(Has d (page x8M p) fullShare (X8 m d p) ∗ Own d (page xsM i) ∗ semVal ((d : Thread nD τ), .dma (semAt cc0_scratch6 i)) 0
            ∗ Owing d (tail (sendOwe d) n)) -∗ wp₀ d Q k) -∗ wp₀ d Q (xStage d i p k)) := by
  subst hp
  unfold Owing xStage xFly
  iintro ⟨#Hr, HF, Hx8, HO⟩ Hk
  iapply (copy_wait 𝒱₀ d (src := xSrc d (blockOf p)) (dst := page xsM (blockOf p)) () NX (NX_eq _) (O := tail (sendOwe d) n)) $$ [HF HO]
  · isplitl [HF]; · iexact HF
    isplitl [HO]; · iexact HO
    ihave Hl := (Rec_lev m K) $$ Hr
    iapply (may_wait d d n (.dma (semAt cc0_scratch6 (blockOf p))) (by unfold lv; rw [role_x]; exact Nat.zero_le 1)) $$ Hl
  iintro ⟨Hxs, -, Hz, HO⟩
  iapply (load_page 𝒱₀ d (b := xsM) (i := blockOf p)) $$ Hxs
  iintro Hxs
  iapply (load_page_any 𝒱₀ d (b := x8M) (i := p)) $$ Hx8
  iintro %w Hx8
  iapply (store_page 𝒱₀ d (b := x8M) (i := p)) $$ Hx8
  iintro Hx8
  iapply Hk
  isplitl [Hx8]; · rw [castX_up]; iexact Hx8
  isplitl [Hxs]; · iapply (Has_own d (page xsM (blockOf p)) _) $$ Hxs
  isplitl [Hz]; · iexact Hz
  iexact HO

/-- The i-th cast block sent. -/
theorem send_rule (Q : PUnit.{1} → sProp 𝕄) (i : Fin 12) :
    iprop(Rec m K ∗ Has d (page x8M (e12 (pT i))) fullShare (X8 m d (e12 (pT i)))
        ∗ (Own (dstT d i) (page rvM (pT i)) ∗ reached ER (recvCell (dstT d i) (pT i)) 0)
        ∗ dutyTok ER (recvCell (dstT d i) (pT i)) 0 0 ∗ dutyTok ER (sendCell d (pT i)) 0 0 ∗ Owing d (tail (sendOwe d) i.val))
      ⊢ iprop((iprop(cred (tallyAt (sendCell d (pT i)) () N) ∗ Owing d (tail (sendOwe d) (i.val + 1))) -∗ wp₀ d Q k) -∗ wp₀ d Q (send d i k)) := by
  unfold Has Own Owing send
  iintro ⟨#Hr, ⟨%fs, %hfs, Hs⟩, ⟨⟨%fd, Hd⟩, Hrc⟩, Htr, Hts, %W, HO⟩ Hk
  iapply (Rounds.wp_send_pointsTo 𝒱₀ ER (Rd m) (d : Thread nD τ) none (κ₁ := K (sendK d (pT i))) (κ₂ := K (recvK (dstT d i) (pT i)))
    (r₁ := 0) (r₂ := 0) (d₁ := 0) (d₂ := 0) (fs := fs) (fd := fd)
    (by rw [duties_send]; exact Finset.mem_singleton_self _) (by rw [duties_recv]; exact Finset.mem_singleton_self _)
    () () N rfl (amount_send m d (pT i) 0) (amount_recv m (dstT d i) (pT i) 0) (tail (sendOwe d) (i.val + 1)) (tail_step (sendOwe d) i)
    (by rw [payload_send]; unfold sendPay Own; iintro H; iexists fs; iexact H)
    (by
      rw [payload_recv]; unfold recvPay; rw [srcP_dstT, ← hfs]
      exact written (dstT d i) (page rvM (pT i)) fd _)) $$ [Hs Hd Hrc Htr Hts HO]
  · isplitr; · iapply (Rec_inv m K (sendK d (pT i))) $$ Hr
    isplitr; · iapply (Rec_inv m K (recvK (dstT d i) (pT i))) $$ Hr
    isplitl [Hs]; · iexact Hs
    isplitl [Hd]; · iexact Hd
    isplitl [HO]; · iexact HO
    isplitl [Hts]; · iexact Hts
    isplitr; · iapply (Rec_reached m K (sendK d (pT i))) $$ Hr
    isplitl [Htr]; · iexact Htr
    iexact Hrc
  iintro ⟨Hc, HO⟩
  iapply Hk
  isplitl [Hc]; · iexact Hc
  iexists _
  iexact HO

/-- The i-th cast block has left: its page is back. -/
theorem sendWait_rule (Q : PUnit.{1} → sProp 𝕄) (i : Fin 12) :
    iprop(Rec m K ∗ cred (tallyAt (sendCell d (pT i)) () N) ∗ atPos ER (sendCell d (pT i)) 0 ∅ 0 ∗ Owing d 0)
      ⊢ iprop((iprop(Own d (page x8M (e12 (pT i))) ∗ atPos ER (sendCell d (pT i)) 1 ∅ 0 ∗ Owing d 0) -∗ wp₀ d Q k) -∗ wp₀ d Q (sendWait i k)) := by
  unfold Owing sendWait
  iintro ⟨#Hr, Hc, Hat, %W, HO⟩ Hk
  iapply (Rounds.wp_wait_rest_token 𝒱₀ ER (Rd m) (d : Thread nD τ) none (κ := K (sendK d (pT i)))
      (wpE_waitDma2_eq 𝒱₀ (d : Thread nD τ) none Set.univ) (Set.mem_univ _) () (O := 0) (W := W) (R := 0) (m := 0) (T := ∅)
      (by rw [Nat.zero_add, expect_send])) $$ [Hc HO Hat]
  · isplitr; · iapply (Rec_inv m K (sendK d (pT i))) $$ Hr
    isplitl [Hc]; · iexact Hc
    isplitl [HO]; · iexact HO
    isplitr; · rw [MayWait_zero]; iempintro
    iexact Hat
  iintro ⟨HO, Hat, -, Hp⟩
  ihave Hp := (Entails.of_eq (rest_send m d (pT i))) $$ Hp
  iapply Hk
  isplitl [Hp]; · unfold sendPay; iexact Hp
  isplitl [Hat]; · iexact Hat
  iexists _
  iexact HO

end Cert.KernelIdeal.Protocol

end
-- ==== Proof.Blocks.lean ====
/-
  What the steps of the kernel's plan that compute do: the staging of w, the four terms of a block of rows of the result,
  and the copies of the finished blocks.
-/
module

public import proofs.«01_k».proof.Proof.Steps
public import Idealize.ShloMosaic.Lib.ValueIdx

@[expose] public section

noncomputable section

namespace Cert.KernelIdeal.Protocol

open Cert.KernelIdeal Cert.KernelIdeal.Plan Cert.Paged
open Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Cell → ℕ) (d : Dev nD)

/-! ## The staging of w -/

/-- A half block of w on device `d`, -/
def WB (j : Fin 4) (h : Fin 2) : Vec F S512x2048 .f32 :=
  (wSrc d j h).view.read (Elt F) (m ((d : Thread nD τ).loc main_arg1))
/-- its cast, -/
def W8B (j : Fin 4) (h : Fin 2) : FVec F S512x2048 .fp8e5m2 :=
  truncf .fp8e5m2 (WB m d j h : FVec F S512x2048 .f32) bitsLt_fp8e5m2_f32
/-- and the whole cast buffer: four pages of two halves. -/
def W8 : (cc0_scratch3 : Ref sig .tc).ty.Contents (Elt F) := fun (z : S4x1024x2048.Idx) =>
  (up (W8B m d (z 0) ⟨(z 1).val / 512, Nat.div_lt_of_lt_mul (z 1).isLt⟩) : Vec F S1x512x2048 .fp8e5m2)
    (ValueIdx.ix3 (0 : Fin 1) (⟨(z 1).val % 512, Nat.mod_lt _ (by decide)⟩ : Fin 512) (z 2 : Fin 2048))

/-- The cast buffer after the first `n` halves have been stored: these hold their casts. -/
def w8At (n : ℕ) : sProp 𝕄 :=
  iprop(∃ f : Buf (Elt F) ((d : Thread nD τ).loc cc0_scratch3),
    ⌜∀ z : S4x1024x2048.Idx, 2 * (z 0).val + (z 1).val / 512 < n → f z = W8 m d z⌝ ∗ ((d : Thread nD τ).loc cc0_scratch3 ↦{fullShare} f))

/-- The cast buffer once all has been stored. -/
def w8Full : sProp 𝕄 := (d : Thread nD τ).loc cc0_scratch3 ↦{fullShare} W8 m d

theorem w8At_zero : (Own d w8M : sProp 𝕄) ⊢ w8At m d 0 := by
  unfold Own w8At
  rw [show (w8M : Memref sig .tc .vmem S4x1024x2048 .fp8e5m2).view.set = Finset.univ from View.set_whole cc0_scratch3]
  iintro ⟨%f, H⟩
  iexists f
  isplitr; · ipureintro; exact fun z h => absurd h (Nat.not_lt_zero _)
  iexact H

theorem w8At_full : w8At m d 8 ⊢ w8Full m d := by
  unfold w8At w8Full
  iintro ⟨%f, %hf, H⟩
  have : f = W8 m d := funext fun (z : S4x1024x2048.Idx) => hf z (by
    have h0 : (z 0).val < 4 := (z 0).isLt
    have h1 : (z 1).val < 1024 := (z 1).isLt
    omega)
  subst this
  iexact H

theorem w8Full_own : w8Full m d ⊢ (Own d w8M : sProp 𝕄) := by
  unfold Own w8Full
  rw [show (w8M : Memref sig .tc .vmem S4x1024x2048 .fp8e5m2).view.set = Finset.univ from View.set_whole cc0_scratch3]
  iintro H
  iexists _
  iexact H

theorem castW_up (v : Vec F S512x2048 .f32) : (castW (up v : Vec F S1x512x2048 .f32))
    = up (truncf .fp8e5m2 (v : FVec F S512x2048 .f32) bitsLt_fp8e5m2_f32 : FVec F S512x2048 .fp8e5m2) :=
  congrArg (fun w : Vec F S512x2048 .f32 => up (truncf .fp8e5m2 (w : FVec F S512x2048 .f32) bitsLt_fp8e5m2_f32 : FVec F S512x2048 .fp8e5m2))
    (down_up v)

theorem W8B_congr {j j' : Fin 4} {h h' : Fin 2} {y y' : S1x512x2048.Idx} (hj : j = j') (hh : h = h') (hy : y = y') :
    (up (W8B m d j h) : Vec F S1x512x2048 .fp8e5m2) y = (up (W8B m d j' h') : Vec F S1x512x2048 .fp8e5m2) y' := by rw [hj, hh, hy]

theorem half_order (n : Fin 8) : n.val = 2 * (jT n).val + (hT n).val := by revert n; decide

/-- Storing the n-th half keeps the others. -/
theorem w8_store (n : Fin 8) (f : Buf (Elt F) ((d : Thread nD τ).loc cc0_scratch3))
    (hf : ∀ z : S4x1024x2048.Idx, 2 * (z 0).val + (z 1).val / 512 < n.val → f z = W8 m d z) :
    ∀ z : S4x1024x2048.Idx, 2 * (z 0).val + (z 1).val / 512 < n.val + 1 →
      ((w8M.access (halfRect (jT n) (hT n))).write (Elt F) f (castW (up (WB m d (jT n) (hT n)) : Vec F S1x512x2048 .f32)) Finset.univ) z = W8 m d z := by
  intro z hz
  have hn : n.val = 2 * (jT n).val + (hT n).val := half_order n
  have h2 : (hT n).val < 2 := (hT n).isLt
  have z2 : (z 2).val < 2048 := (z 2).isLt
  by_cases hm : z ∈ (halfRect (jT n) (hT n)).set
  · obtain ⟨y, rfl⟩ := LoadRect.exists_idx_of_mem _ hm
    have y0 : (y 0).val < 1 := (y 0).isLt
    have y1 : (y 1).val < 512 := (y 1).isLt
    have e0 : (((halfRect (jT n) (hT n)).idx y) 0 : Fin 4) = jT n := Fin.ext (by
      show (jT n).val + 1 * (y 0).val = _; omega)
    have e1 : (((halfRect (jT n) (hT n)).idx y) 1).val = 512 * (hT n).val + (y 1).val := by
      show 512 * (hT n).val + 1 * (y 1).val = _; omega
    have e2 : (((halfRect (jT n) (hT n)).idx y) 2).val = (y 2).val := by
      show 0 + 1 * (y 2).val = _; omega
    refine (View.write_emb_of_mem (v := w8M.access (halfRect (jT n) (hT n))) f _ (Finset.mem_univ y)).trans ?_
    rw [castW_up]
    have hy : y = ValueIdx.ix3 (0 : Fin 1) (⟨(((halfRect (jT n) (hT n)).idx y) 1).val % 512, Nat.mod_lt _ (by decide)⟩ : Fin 512)
        (((halfRect (jT n) (hT n)).idx y) 2 : Fin 2048) := by
      refine (ValueIdx.eq_ix3 (n0 := 1) (n1 := 512) (n2 := 2048) y).trans ?_
      congr 1
      · exact Fin.ext (by show (y 0).val = 0; omega)
      · exact Fin.ext (by show (y 1).val = _ % 512; omega)
      · exact Fin.ext e2.symm
    have hh : (⟨(((halfRect (jT n) (hT n)).idx y) 1).val / 512, Nat.div_lt_of_lt_mul (((halfRect (jT n) (hT n)).idx y) 1).isLt⟩ : Fin 2) = hT n :=
      Fin.ext (by show _ / 512 = _; omega)
    exact W8B_congr m d e0.symm hh.symm hy
  · rw [View.write_of_not_mem]
    · refine hf z ?_
      by_contra hlt
      have z1 : (z 1).val < 1024 := (z 1).isLt
      refine hm (Rect.mem_set_unit.mpr fun a => ?_)
      fin_cases a
      · show (jT n).val ≤ (z 0).val ∧ (z 0).val < (jT n).val + 1; omega
      · show 512 * (hT n).val ≤ (z 1).val ∧ (z 1).val < 512 * (hT n).val + 512; omega
      · show 0 ≤ (z 2).val ∧ (z 2).val < 0 + 2048; omega
    · intro h
      obtain ⟨y, -, hy⟩ := Finset.mem_map.mp h
      refine hm ?_
      have : z = (halfRect (jT n) (hT n)).emb y := hy.symm
      rw [this]
      exact LoadRect.idx_mem _ y

/-- The units the copy of a half block of w counts. -/
def NW : ℕ := (page wsM 0).view.dmaCredit
theorem NW_eq (i : Fin 2) : (page wsM i).view.dmaCredit = NW := rfl
theorem NW_pos : 0 < NW := View.dmaCredit_pos _ (by decide)

/-- A share of the n-th half block of w. -/
def wTok (n : Fin 8) : sProp 𝕄 :=
  (wSrc d (jT n) (hT n)).view.loc (d : Thread nD τ) ↦[(wSrc d (jT n) (hT n)).view.set]{shareTok fullShare 8 n} m ((d : Thread nD τ).loc main_arg1)
/-- Its copy under way. -/
def wFly (n : Fin 8) : sProp 𝕄 :=
  Flying d () (semAt cc0_scratch7 (hT n)) NW (wSrc d (jT n) (hT n)) (shareTok fullShare 8 n) (m ((d : Thread nD τ).loc main_arg1)) (page wsM (hT n))
/-- A staging page of w and its semaphore, free. -/
def wFree (h : Fin 2) : sProp 𝕄 := iprop(Own d (page wsM h) ∗ semVal ((d : Thread nD τ), .dma (semAt cc0_scratch7 h)) 0)

variable (k : Body F)

theorem wStart_rule (Q : PUnit.{1} → sProp 𝕄) (n : Fin 8) :
    iprop(wTok m d n ∗ wFree d (hT n)) ⊢ iprop((wFly m d n -∗ wp₀ d Q k) -∗ wp₀ d Q (wStart d (jT n) (hT n) k)) := by
  unfold wTok wFree wFly wStart
  iintro H Hk
  iapply (copy_start 𝒱₀ d (src := wSrc d (jT n) (hT n)) (dst := page wsM (hT n)) (sem := semAt cc0_scratch7 (hT n)) (q := shareTok fullShare 8 n)
    (fs := m ((d : Thread nD τ).loc main_arg1)) () NW (NW_eq _) NW_pos) $$ H
  iintro H
  iapply Hk
  iexact H

theorem wStage_rule (Q : PUnit.{1} → sProp 𝕄) (n : Fin 8) :
    iprop(wFly m d n ∗ w8At m d n.val ∗ Owing d 0)
      ⊢ iprop((iprop(w8At m d (n.val + 1) ∗ wFree d (hT n) ∗ Owing d 0) -∗ wp₀ d Q k) -∗ wp₀ d Q (wStage d (jT n) (hT n) k)) := by
  unfold Owing wStage wFly wFree w8At
  iintro ⟨HF, ⟨%f, %hf, H8⟩, HO⟩ Hk
  iapply (copy_wait 𝒱₀ d (src := wSrc d (jT n) (hT n)) (dst := page wsM (hT n)) () NW (NW_eq _) (O := 0)) $$ [HF HO]
  · isplitl [HF]; · iexact HF
    isplitl [HO]; · iexact HO
    rw [MayWait_zero]; iempintro
  iintro ⟨Hws, -, Hz, HO⟩
  iapply (load_page 𝒱₀ d (b := wsM) (i := hT n)) $$ Hws
  iintro Hws
  iapply (wp_load 𝒱₀ (d : Thread nD τ) none Set.univ (m := w8M) (f := f) (q := fullShare) (Finset.subset_univ _)) $$ H8
  iintro H8
  iapply (wp_store 𝒱₀ (d : Thread nD τ) none Set.univ (m := w8M) (r := halfRect (jT n) (hT n)) (Mk := Finset.univ) (f := f)
    (Finset.subset_univ _)) $$ H8
  iintro H8
  iapply Hk
  isplitl [H8]
  · iexists _
    isplitr; · ipureintro; exact w8_store m d n f hf
    iexact H8
  isplitl [Hws Hz]
  · isplitl [Hws]; · iapply (Has_own d (page wsM (hT n)) _) $$ Hws
    iexact Hz
  iexact HO

/-! ## The terms of a block of rows -/

/-- A page of the cast of w, as it is loaded. -/
def WJ (j : Fin 4) : Vec F S1x1024x2048 .fp8e5m2 := w8M.view.readAt (Elt F) (pageRect 4 1024 2048 j).toLoadRect (W8 m d)

theorem w8Load_rule (Q : PUnit.{1} → sProp 𝕄) (j : Fin 4) (k : Vec F S1x1024x2048 .fp8e5m2 → Body F) :
    w8Full m d ⊢ iprop((w8Full m d -∗ wp₀ d Q (k (WJ m d j))) -∗ wp₀ d Q (w8Load j k)) := by
  unfold w8Full w8Load WJ
  iintro H Hk
  iapply (wp_load 𝒱₀ (d : Thread nD τ) none Set.univ (m := w8M) (f := W8 m d) (q := fullShare) (k := k) (Finset.subset_univ _)) $$ H
  iexact Hk

/-- The term of the device's own h-th block of x. -/
def T0 (h : Fin 4) : FVec F S256x2048 .f32 := dotXW (up (X8 m d (e4 h))) (WJ m d 0)
/-- The term of the block on receive page `p` with page `j` of w. -/
def TP (p : Fin 12) (j : Fin 4) : FVec F S256x2048 .f32 := dotXW (up (X8 m (srcP d p) (e12 p))) (WJ m d j)
/-- The h-th block of rows of the result. -/
def OV (s : F .f32) (h : Fin 4) : Vec F S256x2048 .f32 :=
  down (last s (TP m d (rT h 2) 3) (more (TP m d (rT h 1) 2) (more (TP m d (rT h 0) 1) (first (T0 m d h)))))

theorem mulOwn_rule (Q : PUnit.{1} → sProp 𝕄) (h : Fin 4) :
    iprop(Has d (page x8M (e4 h)) fullShare (X8 m d (e4 h)) ∗ w8Full m d ∗ Own d (page ovM h))
      ⊢ iprop((iprop(Own d (page x8M (e4 h)) ∗ w8Full m d ∗ Has d (page ovM h) fullShare (down (first (T0 m d h)))) -∗ wp₀ d Q k)
          -∗ wp₀ d Q (mulOwn h k)) := by
  unfold mulOwn ovLoad ovStore
  iintro ⟨Hx, H8, Ho⟩ Hk
  iapply (load_page 𝒱₀ d (b := x8M) (i := e4 h)) $$ Hx
  iintro Hx
  iapply (w8Load_rule m d Q 0 _) $$ H8
  iintro H8
  iapply (load_page_any 𝒱₀ d (b := ovM) (i := h)) $$ Ho
  iintro %w Ho
  iapply (store_page 𝒱₀ d (b := ovM) (i := h)) $$ Ho
  iintro Ho
  iapply Hk
  isplitl [Hx]; · iapply (Has_own d (page x8M (e4 h)) _) $$ Hx
  isplitl [H8]; · iexact H8
  iexact Ho

theorem mulPeer_rule (Q : PUnit.{1} → sProp 𝕄) (h : Fin 4) (p : Fin 12) (j : Fin 4)
    (g : FVec F S256x2048 .f32 → Vec F S1x256x2048 .f32 → Vec F S1x256x2048 .f32) (o : Vec F S1x256x2048 .f32) :
    iprop(Rec m K ∗ (cred (tallyAt (recvCell d p) () N) ∗ atPos ER (recvCell d p) 0 ∅ 0) ∗ Owing d 0 ∗ w8Full m d
        ∗ Has d (page ovM h) fullShare (down o))
      ⊢ iprop((iprop((Own d (page rvM p) ∗ atPos ER (recvCell d p) 1 ∅ 0) ∗ Owing d 0 ∗ w8Full m d
            ∗ Has d (page ovM h) fullShare (down (g (TP m d p j) o))) -∗ wp₀ d Q k)
          -∗ wp₀ d Q (mulPeer h p j g k)) := by
  unfold mulPeer ovLoad ovStore Owing
  iintro ⟨#Hr, ⟨Hc, Hat⟩, ⟨%W, HO⟩, H8, Ho⟩ Hk
  iapply (Rounds.wp_wait_rest_token 𝒱₀ ER (Rd m) (d : Thread nD τ) none (κ := K (recvK d p))
      (wpE_waitDma2_eq 𝒱₀ (d : Thread nD τ) none Set.univ) (Set.mem_univ _) () (O := 0) (W := W) (R := 0) (m := 0) (T := ∅)
      (by rw [Nat.zero_add, expect_recv])) $$ [Hc HO Hat]
  · isplitr; · iapply (Rec_inv m K (recvK d p)) $$ Hr
    isplitl [Hc]; · iexact Hc
    isplitl [HO]; · iexact HO
    isplitr; · rw [MayWait_zero]; iempintro
    iexact Hat
  iintro ⟨HO, Hat, -, Hp⟩
  ihave Hp := (Entails.of_eq (rest_recv m d p)) $$ Hp
  unfold recvPay
  iapply (load_page 𝒱₀ d (b := rvM) (i := p)) $$ Hp
  iintro Hp
  iapply (w8Load_rule m d Q j _) $$ H8
  iintro H8
  iapply (load_page 𝒱₀ d (b := ovM) (i := h)) $$ Ho
  iintro Ho
  iapply (load_page 𝒱₀ d (b := ovM) (i := h)) $$ Ho
  iintro Ho
  ihave Ho := (Has_own d (page ovM h) _) $$ Ho
  iapply (store_page 𝒱₀ d (b := ovM) (i := h)) $$ Ho
  iintro Ho
  iapply Hk
  isplitl [Hp Hat]
  · isplitl [Hp]; · iapply (Has_own d (page rvM p) _) $$ Hp
    iexact Hat
  isplitl [HO]; · iexists _; iexact HO
  isplitl [H8]; · iexact H8
  rw [up_down]
  iexact Ho

/-! ## The finished blocks -/

def NO : ℕ := (outRows 0).view.dmaCredit
theorem NO_eq (h : Fin 4) : (outRows h).view.dmaCredit = NO := rfl
theorem NO_pos : 0 < NO := View.dmaCredit_pos _ (by decide)

/-- The copy of a page holding `v` to its rows of the result under way. -/
def oFly (h : Fin 4) (v : Vec F S256x2048 .f32) : sProp 𝕄 :=
  iprop(∃ fs, ⌜(page ovM h).view.read (Elt F) fs = v⌝ ∗ Flying d () (semAt cc0_scratch10 h) NO (page ovM h) fullShare fs (outRows h))

theorem outStart_rule (Q : PUnit.{1} → sProp 𝕄) (h : Fin 4) (v : Vec F S256x2048 .f32) :
    iprop(Has d (page ovM h) fullShare v ∗ Own d (outRows h) ∗ semVal ((d : Thread nD τ), .dma (semAt cc0_scratch10 h)) 0)
      ⊢ iprop((oFly d h v -∗ wp₀ d Q k) -∗ wp₀ d Q (outStart h k)) := by
  unfold oFly outStart Has
  iintro ⟨⟨%fs, %hfs, Hs⟩, Hd, Hz⟩ Hk
  iapply (copy_start 𝒱₀ d (src := page ovM h) (dst := outRows h) (sem := semAt cc0_scratch10 h) (q := fullShare)
    (fs := fs) () NO (NO_eq h) NO_pos) $$ [Hs Hd Hz]
  · isplitl [Hs]; · iexact Hs
    isplitl [Hd] <;> iassumption
  iintro H
  iapply Hk
  iexists fs
  isplitr; · ipureintro; exact hfs
  iexact H

theorem outWait_rule (Q : PUnit.{1} → sProp 𝕄) (h : Fin 4) (v : Vec F S256x2048 .f32) :
    iprop(oFly d h v ∗ Owing d 0)
      ⊢ iprop((iprop((Has d (outRows h) fullShare v ∗ Own d (page ovM h) ∗ semVal ((d : Thread nD τ), .dma (semAt cc0_scratch10 h)) 0)
            ∗ Owing d 0) -∗ wp₀ d Q k) -∗ wp₀ d Q (outWait h k)) := by
  unfold oFly outWait Owing
  iintro ⟨⟨%fs, %hfs, HF⟩, HO⟩ Hk
  iapply (copy_wait 𝒱₀ d (src := page ovM h) (dst := outRows h) () NO (NO_eq h) (O := 0)) $$ [HF HO]
  · isplitl [HF]; · iexact HF
    isplitl [HO]; · iexact HO
    rw [MayWait_zero]; iempintro
  iintro ⟨Hd, Hs, Hz, HO⟩
  iapply Hk
  rw [hfs]
  isplitr [HO]
  · isplitl [Hd]; · iexact Hd
    isplitl [Hs]; · unfold Own; iexists fs; iexact Hs
    iexact Hz
  iexact HO

/-- A finished block of rows: what it needs, -/
def rowPre (h : Fin 4) : sProp 𝕄 :=
  iprop(Has d (page x8M (e4 h)) fullShare (X8 m d (e4 h)) ∗ Own d (page ovM h)
    ∗ (Own d (outRows h) ∗ semVal ((d : Thread nD τ), .dma (semAt cc0_scratch10 h)) 0)
    ∗ bigSep Finset.univ fun g : Fin 3 => iprop(cred (tallyAt (recvCell d (rT h g)) () N) ∗ atPos ER (recvCell d (rT h g)) 0 ∅ 0))
/-- and what it leaves. -/
def rowPost (s : F .f32) (h : Fin 4) : sProp 𝕄 :=
  iprop(Own d (page x8M (e4 h)) ∗ oFly d h (OV m d s h)
    ∗ bigSep Finset.univ fun g : Fin 3 => iprop(Own d (page rvM (rT h g)) ∗ atPos ER (recvCell d (rT h g)) 1 ∅ 0))

theorem three (Φ : Fin 3 → sProp 𝕄) : bigSep Finset.univ Φ = iprop(Φ 0 ∗ Φ 1 ∗ Φ 2) := by
  exact bigSep_univ_eq_bigSepL [(0 : Fin 3), 1, 2] (by decide) (by decide) Φ

theorem rowBlock_rule (Q : PUnit.{1} → sProp 𝕄) (s : F .f32) (h : Fin 4) :
    iprop(rowPre m d h ∗ Rec m K ∗ Owing d 0 ∗ w8Full m d)
      ⊢ iprop((iprop(rowPost m d s h ∗ Rec m K ∗ Owing d 0 ∗ w8Full m d) -∗ wp₀ d Q k) -∗ wp₀ d Q (rowBlock s h k)) := by
  unfold rowPre rowPost rowBlock
  rw [three, three]
  iintro ⟨⟨Hx, Ho, ⟨Hrows, Hz⟩, Hc0, Hc1, Hc2⟩, #Hr, HO, H8⟩ Hk
  iapply (mulOwn_rule m d _ Q h) $$ [Hx H8 Ho]
  · isplitl [Hx]; · iexact Hx
    isplitl [H8] <;> iassumption
  iintro ⟨Hx, H8, Ho⟩
  iapply (mulPeer_rule m K d _ Q h (rT h 0) 1 more _) $$ [Hc0 HO H8 Ho]
  · isplitr; · iexact Hr
    isplitl [Hc0]; · iexact Hc0
    isplitl [HO]; · iexact HO
    isplitl [H8] <;> iassumption
  iintro ⟨Hc0, HO, H8, Ho⟩
  iapply (mulPeer_rule m K d _ Q h (rT h 1) 2 more _) $$ [Hc1 HO H8 Ho]
  · isplitr; · iexact Hr
    isplitl [Hc1]; · iexact Hc1
    isplitl [HO]; · iexact HO
    isplitl [H8] <;> iassumption
  iintro ⟨Hc1, HO, H8, Ho⟩
  iapply (mulPeer_rule m K d _ Q h (rT h 2) 3 (last s) _) $$ [Hc2 HO H8 Ho]
  · isplitr; · iexact Hr
    isplitl [Hc2]; · iexact Hc2
    isplitl [HO]; · iexact HO
    isplitl [H8] <;> iassumption
  iintro ⟨Hc2, HO, H8, Ho⟩
  iapply (outStart_rule d _ Q h (OV m d s h)) $$ [Ho Hrows Hz]
  · isplitl [Ho]; · unfold OV; iexact Ho
    isplitl [Hrows] <;> iassumption
  iintro Hfly
  iapply Hk
  isplitr [HO H8]
  · isplitl [Hx]; · iexact Hx
    isplitl [Hfly]; · iexact Hfly
    isplitl [Hc0]; · iexact Hc0
    isplitl [Hc1] <;> iassumption
  isplitr; · iexact Hr
  isplitl [HO] <;> iassumption

end Cert.KernelIdeal.Protocol

end
-- ==== Proof.Body.lean ====
/-
  The kernel's plan from beginning to end, on one device: what it needs and what it leaves.
-/
module

public import proofs.«01_k».proof.Proof.Blocks

@[expose] public section

noncomputable section

namespace Cert.KernelIdeal.Protocol

open Cert.KernelIdeal Cert.KernelIdeal.Plan Cert.Paged
open Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Cell → ℕ) (d : Dev nD) (k : Body F)

/-! ## Conjunctions regrouped -/

/-- The sixteen pages are the twelve sent and the four kept. -/
theorem split16 (Φ : Fin 16 → sProp 𝕄) :
    bigSep Finset.univ Φ = iprop((bigSep Finset.univ fun i : Fin 12 => Φ (e12 i)) ∗ bigSep Finset.univ fun i : Fin 4 => Φ (e4 i)) := by
  rw [bigSep_univ_equiv (finSumFinEquiv (m := 12) (n := 4)) Φ, bigSep_univ_sum]
  rfl

/-- The twelve in the order of the transfers. -/
theorem order12 (Φ : Fin 12 → sProp 𝕄) : bigSep Finset.univ Φ = bigSep Finset.univ fun i : Fin 12 => Φ (pT i) :=
  bigSep_univ_equiv pE Φ

/-- The receive pages by block of rows and by sender. -/
def rE : Fin 4 × Fin 3 ≃ Fin 12 where
  toFun x := rT x.1 x.2
  invFun p := (⟨p.val % 4, Nat.mod_lt _ (by decide)⟩, (![0, 2, 1] : Fin 3 → Fin 3) ⟨p.val / 4, by omega⟩)
  left_inv := by decide
  right_inv := by decide

theorem order4x3 (Φ : Fin 12 → sProp 𝕄) :
    bigSep Finset.univ Φ = bigSep Finset.univ fun h : Fin 4 => bigSep Finset.univ fun g : Fin 3 => Φ (rT h g) :=
  (bigSep_univ_equiv rE Φ).trans (bigSep_univ_prod _)

theorem two (Φ : Fin 2 → sProp 𝕄) : bigSep Finset.univ Φ = iprop(Φ 0 ∗ Φ 1) := by
  exact bigSep_univ_eq_bigSepL [(0 : Fin 2), 1] (by decide) (by decide) Φ

/-! ## The barrier -/

theorem image_srcP : Finset.univ.image (fun i : Fin 12 => srcP d (pT i)) = Finset.univ.image (sigT d) := by revert d; decide

theorem handed (i : Fin 3) :
    (bigSep (Finset.univ.filter fun j : Fin 12 => srcP d (pT j) = sigT d i) fun j =>
        iprop(Own d (page rvM (pT j)) ∗ reached ER (recvCell d (pT j)) 0) : sProp 𝕄) = barPay (sigT d i) d := by
  unfold barPay
  have h : (Finset.univ.filter fun j : Fin 12 => srcP d (pT j) = sigT d i) = Finset.univ.filter fun j : Fin 12 => dstT (sigT d i) j = d :=
    Finset.filter_congr fun j _ => by rw [dstT_eq]; exact eq_comm
  rw [h]
  exact bigSep_congr fun j hj => by rw [(Finset.mem_filter.mp hj).2]

/-- A device's receive pages are what it hands the others at the barrier. -/
theorem hand_over :
    iprop(Rec m K ∗ bigSep Finset.univ fun p : Fin 12 => Own d (page rvM p)) ⊢ bigSep Finset.univ fun i : Fin 3 => barPay (F := F) (sigT d i) d := by
  rw [order12]
  refine (each_with (Ψ := fun j : Fin 12 => iprop(Own d (page rvM (pT j)) ∗ reached ER (recvCell d (pT j)) 0)) fun j => ?_).trans ?_
  · iintro ⟨#Hr, H⟩
    isplitl [H]; · iexact H
    iapply (Rec_reached m K (recvK d (pT j))) $$ Hr
  · refine Entails.of_eq ?_
    rw [bigSep_fiberwise Finset.univ (fun j : Fin 12 => srcP d (pT j)), image_srcP,
      bigSep_image_of_injOn fun i _ j _ h => sigT_inj d i j h]
    exact bigSep_congr fun i _ => handed d i

/-! ## The plan, part by part -/

/-- All copies of x started and the barrier passed. -/
theorem part1 (Q : PUnit.{1} → sProp 𝕄) :
    iprop(Rec m K ∗ (bigSep Finset.univ fun i : Fin 16 => xTok m d i) ∗ Own d xsM
        ∗ (bigSep Finset.univ fun i : Fin 16 => semVal ((d : Thread nD τ), .dma (semAt cc0_scratch6 i)) 0)
        ∗ Own d rvM ∗ (bigSep Finset.univ fun i : Fin 3 => dutyTok ER (barCell (sigT d i)) 0 d)
        ∗ cred (tallyAt (barCell d) () 3) ∗ atPos ER (barCell d) 0 ∅ 0 ∗ Owing d (O₀ d))
      ⊢ iprop((iprop((bigSep Finset.univ fun i : Fin 16 => xFly m d i) ∗ dests d ∗ atPos ER (barCell d) 1 ∅ 0 ∗ Owing d (tail (sendOwe d) 0))
            -∗ wp₀ d Q k)
          -∗ wp₀ d Q (rep 16 (xStart d) <| rep 3 (tell d) <| meet k)) := by
  iintro ⟨#Hr, Hx, Hxs, Hz, Hrv, Ht, Hc, Hat, HO⟩ Hk
  ihave Hxs := (Own_pages d xsM) $$ Hxs
  ihave Hrv := (Own_pages d rvM) $$ Hrv
  ihave Hp := (hand_over m K d) $$ [Hrv]
  · isplitr; · iexact Hr
    iexact Hrv
  ihave H1 := (zip (S := Finset.univ) (fun i : Fin 16 => Own d (page xsM i)) (fun i : Fin 16 => semVal ((d : Thread nD τ), .dma (semAt cc0_scratch6 i)) 0)) $$ [Hxs Hz]
  · isplitl [Hxs] <;> iassumption
  ihave H1 := (zip (S := Finset.univ) (fun i : Fin 16 => xTok m d i) _) $$ [Hx H1]
  · isplitl [Hx] <;> iassumption
  iapply (rep_rule (wp₀ d Q) 16 (xStart d) _ (fun i => iprop(xTok m d i ∗ Own d (page xsM i) ∗ semVal ((d : Thread nD τ), .dma (semAt cc0_scratch6 i)) 0)) (fun i => xFly m d i) (fun _ => iprop(emp)) (fun i k => by
    iintro ⟨HA, -⟩ Hk
    iapply (xStart_rule m d k Q i) $$ HA
    iintro HB
    iapply Hk
    isplitl [HB]; · iexact HB
    iempintro)) $$ [H1]
  · isplitl [H1]; · iexact H1
    iempintro
  iintro ⟨Hfly, -⟩
  ihave H2 := (zip (S := Finset.univ) (fun i : Fin 3 => barPay (sigT d i) d) (fun i : Fin 3 => dutyTok ER (barCell (sigT d i)) 0 d)) $$ [Hp Ht]
  · isplitl [Hp] <;> iassumption
  iapply (rep_rule (wp₀ d Q) 3 (tell d) _ (fun i => iprop(barPay (sigT d i) d ∗ dutyTok ER (barCell (sigT d i)) 0 d)) (fun _ => iprop(emp))
    (fun i : Fin 4 => iprop(Rec m K ∗ Owing d (tail (sendOwe d) 0 + tail (barOwe d) i.val))) (fun i k => by
    iintro ⟨⟨Hp, Ht⟩, #Hr, HO⟩ Hk
    iapply (tell_rule m K d k Q i) $$ [Hp Ht HO]
    · isplitr; · iexact Hr
      isplitl [Hp]; · iexact Hp
      isplitl [Ht]; · iexact Ht
      iexact HO
    iintro HO
    iapply Hk
    isplitr; · iempintro
    isplitr; · iexact Hr
    iexact HO)) $$ [H2 HO]
  · isplitl [H2]; · iexact H2
    isplitr; · iexact Hr
    iexact HO
  iintro ⟨-, -, HO⟩
  rw [show (tail (sendOwe d) 0 + tail (barOwe d) (Fin.last 3).val) = tail (sendOwe d) 0 from (congrArg _ (tail_end (barOwe d))).trans (add_zero _)]
  iapply (meet_rule m K d k Q) $$ [Hc Hat HO]
  · isplitr; · iexact Hr
    isplitl [Hc]; · iexact Hc
    isplitl [Hat] <;> iassumption
  iintro ⟨Hd, Hat, HO⟩
  iapply Hk
  isplitl [Hfly]; · iexact Hfly
  isplitl [Hd]; · iexact Hd
  isplitl [Hat] <;> iassumption

/-- All of x cast, and the blocks for the others sent. -/
theorem part2 (Q : PUnit.{1} → sProp 𝕄) :
    iprop(Rec m K ∗ (bigSep Finset.univ fun i : Fin 16 => xFly m d i) ∗ Own d x8M ∗ dests d
        ∗ (bigSep Finset.univ fun i : Fin 12 => dutyTok ER (recvCell (dstT d i) (pT i)) 0 0)
        ∗ (bigSep Finset.univ fun i : Fin 12 => dutyTok ER (sendCell d (pT i)) 0 0) ∗ Owing d (tail (sendOwe d) 0))
      ⊢ iprop((iprop((bigSep Finset.univ fun i : Fin 12 => cred (tallyAt (sendCell d (pT i)) () N))
            ∗ (bigSep Finset.univ fun i : Fin 16 => Own d (page xsM i))
            ∗ (bigSep Finset.univ fun i : Fin 16 => semVal ((d : Thread nD τ), .dma (semAt cc0_scratch6 i)) 0)
            ∗ (bigSep Finset.univ fun i : Fin 4 => Has d (page x8M (e4 i)) fullShare (X8 m d (e4 i))) ∗ Owing d 0) -∗ wp₀ d Q k)
          -∗ wp₀ d Q (rep 12 (fun i k => xStage d (e12 i) (e12 (pT i)) (send d i k)) <| rep 4 (fun i k => xStage d (e4 i) (e4 i) k) k)) := by
  unfold dests
  rw [split16 (fun i => xFly m d i), split16 (fun i => Own d (page xsM i)),
    split16 (fun i => semVal ((d : Thread nD τ), .dma (semAt cc0_scratch6 i)) 0)]
  iintro ⟨#Hr, ⟨Hf, Hf'⟩, Hx8, Hd, Ht, Hs, HO⟩ Hk
  ihave Hx8 := ((Own_pages d x8M).trans (Entails.of_eq (split16 (fun i => Own d (page x8M i))))) $$ Hx8
  icases Hx8 with ⟨Hx, Hx'⟩
  ihave Hx := (Entails.of_eq (order12 (fun i => Own d (page x8M (e12 i))))) $$ Hx
  ihave H1 := (zip (S := Finset.univ) (fun i : Fin 12 => dutyTok ER (recvCell (dstT d i) (pT i)) 0 0) (fun i : Fin 12 => dutyTok ER (sendCell d (pT i)) 0 0)) $$ [Ht Hs]
  · isplitl [Ht] <;> iassumption
  ihave H1 := (zip (S := Finset.univ) (fun i : Fin 12 => iprop(Own (dstT d i) (page rvM (pT i)) ∗ reached ER (recvCell (dstT d i) (pT i)) 0)) _) $$ [Hd H1]
  · isplitl [Hd] <;> iassumption
  ihave H1 := (zip (S := Finset.univ) (fun i : Fin 12 => Own d (page x8M (e12 (pT i)))) _) $$ [Hx H1]
  · isplitl [Hx] <;> iassumption
  ihave H1 := (zip (S := Finset.univ) (fun i : Fin 12 => xFly m d (e12 i)) _) $$ [Hf H1]
  · isplitl [Hf] <;> iassumption
  iapply (rep_rule (wp₀ d Q) 12 (fun i k => xStage d (e12 i) (e12 (pT i)) (send d i k)) _
    (fun i => iprop(xFly m d (e12 i) ∗ Own d (page x8M (e12 (pT i))) ∗ (Own (dstT d i) (page rvM (pT i)) ∗ reached ER (recvCell (dstT d i) (pT i)) 0)
      ∗ dutyTok ER (recvCell (dstT d i) (pT i)) 0 0 ∗ dutyTok ER (sendCell d (pT i)) 0 0))
    (fun i => iprop(cred (tallyAt (sendCell d (pT i)) () N) ∗ Own d (page xsM (e12 i)) ∗ semVal ((d : Thread nD τ), .dma (semAt cc0_scratch6 (e12 i))) 0))
    (fun i : Fin 13 => iprop(Rec m K ∗ Owing d (tail (sendOwe d) i.val))) (fun i k => by
    iintro ⟨⟨Hf, Hx, Hd, Ht, Hs⟩, #Hr, HO⟩ Hk
    iapply (xStage_rule m K d (send d i k) Q (e12 i) (e12 (pT i)) (blockOf_sent i) i.val) $$ [Hf Hx HO]
    · isplitr; · iexact Hr
      isplitl [Hf]; · iexact Hf
      isplitl [Hx]; · iexact Hx
      iexact HO
    iintro ⟨Hx, Hxs, Hz, HO⟩
    iapply (send_rule m K d k Q i) $$ [Hx Hd Ht Hs HO]
    · isplitr; · iexact Hr
      isplitl [Hx]; · iexact Hx
      isplitl [Hd]; · iexact Hd
      isplitl [Ht]; · iexact Ht
      isplitl [Hs] <;> iassumption
    iintro ⟨Hc, HO⟩
    iapply Hk
    isplitl [Hc Hxs Hz]
    · isplitl [Hc]; · iexact Hc
      isplitl [Hxs] <;> iassumption
    isplitr; · iexact Hr
    iexact HO)) $$ [H1 HO]
  · isplitl [H1]; · iexact H1
    isplitr; · iexact Hr
    iexact HO
  iintro ⟨HB, -, HO⟩
  ihave HB := (unzip (S := Finset.univ) (fun i : Fin 12 => cred (tallyAt (sendCell d (pT i)) () N)) _) $$ HB
  icases HB with ⟨Hc, HB⟩
  ihave HB := (unzip (S := Finset.univ) (fun i : Fin 12 => Own d (page xsM (e12 i))) _) $$ HB
  icases HB with ⟨Hxs, Hz⟩
  rw [show tail (sendOwe d) (Fin.last 12).val = 0 from tail_end (sendOwe d)]
  ihave H1 := (zip (S := Finset.univ) (fun i : Fin 4 => xFly m d (e4 i)) (fun i : Fin 4 => Own d (page x8M (e4 i)))) $$ [Hf' Hx']
  · isplitl [Hf'] <;> iassumption
  iapply (rep_rule (wp₀ d Q) 4 (fun i k => xStage d (e4 i) (e4 i) k) _ (fun i => iprop(xFly m d (e4 i) ∗ Own d (page x8M (e4 i))))
    (fun i => iprop(Has d (page x8M (e4 i)) fullShare (X8 m d (e4 i)) ∗ Own d (page xsM (e4 i)) ∗ semVal ((d : Thread nD τ), .dma (semAt cc0_scratch6 (e4 i))) 0))
    (fun i : Fin 5 => iprop(Rec m K ∗ Owing d 0)) (fun i k => by
    iintro ⟨⟨Hf, Hx⟩, #Hr, HO⟩ Hk
    rw [← tail_end (sendOwe d)]
    iapply (xStage_rule m K d k Q (e4 i) (e4 i) (blockOf_kept i) 12) $$ [Hf Hx HO]
    · isplitr; · iexact Hr
      isplitl [Hf]; · iexact Hf
      isplitl [Hx]; · iexact Hx
      iexact HO
    iintro ⟨Hx, Hxs, Hz, HO⟩
    iapply Hk
    isplitl [Hx Hxs Hz]
    · isplitl [Hx]; · iexact Hx
      isplitl [Hxs] <;> iassumption
    isplitr; · iexact Hr
    iexact HO)) $$ [H1 HO]
  · isplitl [H1]; · iexact H1
    isplitr; · iexact Hr
    iexact HO
  iintro ⟨HB, -, HO⟩
  ihave HB := (unzip (S := Finset.univ) _
    (fun i : Fin 4 => iprop(Own d (page xsM (e4 i)) ∗ semVal ((d : Thread nD τ), .dma (semAt cc0_scratch6 (e4 i))) 0))) $$ HB
  icases HB with ⟨Hx', HB⟩
  ihave HB := (unzip (S := Finset.univ) (fun i : Fin 4 => Own d (page xsM (e4 i))) _) $$ HB
  icases HB with ⟨Hxs', Hz'⟩
  iapply Hk
  isplitl [Hc]; · iexact Hc
  isplitl [Hxs Hxs']
  · isplitl [Hxs] <;> iassumption
  isplitl [Hz Hz']
  · isplitl [Hz] <;> iassumption
  isplitl [Hx'] <;> iassumption

/-- The other staging page than the one of a step. -/
def oT : Fin 8 → Fin 2 := ![1, 0, 1, 0, 1, 0, 1, 0]
theorem hT_succ (i : Fin 7) : hT i.succ = oT i.castSucc := by revert i; decide
theorem oT_succ (i : Fin 7) : oT i.succ = hT i.castSucc := by revert i; decide

/-- All of w cast. -/
theorem part3 (Q : PUnit.{1} → sProp 𝕄) :
    iprop((bigSep Finset.univ fun n : Fin 8 => wTok m d n) ∗ (wFree d 0 ∗ wFree d 1) ∗ Own d w8M ∗ Owing d 0)
      ⊢ iprop((iprop(w8Full m d ∗ (wFree d 0 ∗ wFree d 1) ∗ Owing d 0) -∗ wp₀ d Q k)
          -∗ wp₀ d Q (wStart d 0 0 <|
            rep 7 (fun i k => wStart d (jT i.succ) (hT i.succ) (wStage d (jT i.castSucc) (hT i.castSucc) k)) <| wStage d 3 1 k)) := by
  rw [sep_fin_succ]
  iintro ⟨⟨Hw0, Hw⟩, ⟨H0, H1⟩, H8, HO⟩ Hk
  ihave H8 := (w8At_zero m d) $$ H8
  iapply (wStart_rule m d _ Q 0) $$ [Hw0 H0]
  · isplitl [Hw0]; · iexact Hw0
    iexact H0
  iintro HF
  iapply (rep_rule (wp₀ d Q) 7 (fun i k => wStart d (jT i.succ) (hT i.succ) (wStage d (jT i.castSucc) (hT i.castSucc) k)) _
    (fun i => wTok m d i.succ) (fun _ => iprop(emp)) (fun n : Fin 8 => iprop(wFly m d n ∗ wFree d (oT n) ∗ w8At m d n.val ∗ Owing d 0)) (fun i k => by
    iintro ⟨Hw, HF, Ho, H8, HO⟩ Hk
    iapply (wStart_rule m d _ Q i.succ) $$ [Hw Ho]
    · isplitl [Hw]; · iexact Hw
      rw [hT_succ]; iexact Ho
    iintro HF'
    iapply (wStage_rule m d k Q i.castSucc) $$ [HF H8 HO]
    · isplitl [HF]; · iexact HF
      isplitl [H8] <;> iassumption
    iintro ⟨H8, Ho, HO⟩
    iapply Hk
    isplitr; · iempintro
    isplitl [HF']; · iexact HF'
    isplitl [Ho]; · rw [oT_succ]; iexact Ho
    isplitl [H8]; · iexact H8
    iexact HO)) $$ [Hw HF H1 H8 HO]
  · isplitl [Hw]; · iexact Hw
    isplitl [HF]; · iexact HF
    isplitl [H1]; · iexact H1
    isplitl [H8]; · iexact H8
    iexact HO
  iintro ⟨-, HF, H0, H8, HO⟩
  iapply (wStage_rule m d k Q 7) $$ [HF H8 HO]
  · isplitl [HF]; · iexact HF
    isplitl [H8]; · iexact H8
    iexact HO
  iintro ⟨H8, H1, HO⟩
  ihave H8 := (show w8At m d ((7 : Fin 8).val + 1) ⊢ w8Full m d from w8At_full m d) $$ H8
  iapply Hk
  isplitl [H8]; · iexact H8
  isplitl [H0 H1]
  · isplitl [H0]; · iexact H0
    iexact H1
  iexact HO

/-- What the last part leaves of the semaphores with rounds: each a round on. -/
def passed : sProp 𝕄 :=
  iprop((bigSep Finset.univ fun p : Fin 12 => atPos ER (sendCell d p) 1 ∅ 0) ∗ bigSep Finset.univ fun p : Fin 12 => atPos ER (recvCell d p) 1 ∅ 0)

/-- All four blocks of rows computed and copied, and everything sent has left. -/
theorem part4 (Q : PUnit.{1} → sProp 𝕄) (s : F .f32) :
    iprop(Rec m K ∗ (bigSep Finset.univ fun i : Fin 4 => Has d (page x8M (e4 i)) fullShare (X8 m d (e4 i)))
        ∗ Own d ovM ∗ (bigSep Finset.univ fun h : Fin 4 => Own d (outRows h))
        ∗ (bigSep Finset.univ fun h : Fin 4 => semVal ((d : Thread nD τ), .dma (semAt cc0_scratch10 h)) 0)
        ∗ (bigSep Finset.univ fun p : Fin 12 => cred (tallyAt (recvCell d p) () N)) ∗ (bigSep Finset.univ fun p : Fin 12 => atPos ER (recvCell d p) 0 ∅ 0)
        ∗ (bigSep Finset.univ fun i : Fin 12 => cred (tallyAt (sendCell d (pT i)) () N)) ∗ (bigSep Finset.univ fun p : Fin 12 => atPos ER (sendCell d p) 0 ∅ 0)
        ∗ w8Full m d ∗ Owing d 0)
      ⊢ iprop((iprop((bigSep Finset.univ fun i : Fin 16 => Own d (page x8M i)) ∗ (bigSep Finset.univ fun p : Fin 12 => Own d (page rvM p))
            ∗ (bigSep Finset.univ fun h : Fin 4 => Own d (page ovM h))
            ∗ (bigSep Finset.univ fun h : Fin 4 => Has d (outRows h) fullShare (OV m d s h))
            ∗ (bigSep Finset.univ fun h : Fin 4 => semVal ((d : Thread nD τ), .dma (semAt cc0_scratch10 h)) 0)
            ∗ passed d ∗ w8Full m d ∗ Owing d 0) -∗ wp₀ d Q k)
          -∗ wp₀ d Q (rep 4 (rowBlock s) <| rep 4 outWait <| rep 12 sendWait k)) := by
  unfold passed
  rw [split16 (fun i => Own d (page x8M i)), order12 (fun i => Own d (page x8M (e12 i))),
    order12 (fun p => atPos ER (sendCell d p) 0 ∅ 0), order12 (fun p => atPos ER (sendCell d p) 1 ∅ 0),
    order4x3 (fun p => cred (tallyAt (recvCell d p) () N)), order4x3 (fun p => atPos ER (recvCell d p) 0 ∅ 0),
    order4x3 (fun p => atPos ER (recvCell d p) 1 ∅ 0), order4x3 (fun p => Own d (page rvM p))]
  iintro ⟨#Hr, Hx, Hov, Hout, Hz, Hc, Hat, Hsc, Hsat, H8, HO⟩ Hk
  ihave Hov := (Own_pages d ovM) $$ Hov
  ihave H1 := ((zip (S := Finset.univ) (fun h : Fin 4 => bigSep Finset.univ fun g : Fin 3 => cred (tallyAt (recvCell d (rT h g)) () N))
      (fun h : Fin 4 => bigSep Finset.univ fun g : Fin 3 => atPos ER (recvCell d (rT h g)) 0 ∅ 0)).trans
      (each fun h => zip (S := Finset.univ) (fun g : Fin 3 => cred (tallyAt (recvCell d (rT h g)) () N)) _)) $$ [Hc Hat]
  · isplitl [Hc] <;> iassumption
  ihave H2 := (zip (S := Finset.univ) (fun h : Fin 4 => Own d (outRows h)) (fun h : Fin 4 => semVal ((d : Thread nD τ), .dma (semAt cc0_scratch10 h)) 0)) $$ [Hout Hz]
  · isplitl [Hout] <;> iassumption
  ihave H1 := (zip (S := Finset.univ) (fun h : Fin 4 => iprop(Own d (outRows h) ∗ semVal ((d : Thread nD τ), .dma (semAt cc0_scratch10 h)) 0)) _) $$ [H2 H1]
  · isplitl [H2] <;> iassumption
  ihave H1 := (zip (S := Finset.univ) (fun h : Fin 4 => Own d (page ovM h)) _) $$ [Hov H1]
  · isplitl [Hov] <;> iassumption
  ihave H1 := (zip (S := Finset.univ) (fun i : Fin 4 => Has d (page x8M (e4 i)) fullShare (X8 m d (e4 i))) _) $$ [Hx H1]
  · isplitl [Hx] <;> iassumption
  iapply (rep_rule (wp₀ d Q) 4 (rowBlock s) _ (fun h => rowPre m d h) (fun h => rowPost m d s h)
    (fun _ => iprop(Rec m K ∗ Owing d 0 ∗ w8Full m d)) (fun h k => rowBlock_rule m K d k Q s h)) $$ [H1 HO H8]
  · isplitl [H1]; · iexact H1
    isplitr; · iexact Hr
    isplitl [HO] <;> iassumption
  iintro ⟨HB, -, HO, H8⟩
  unfold rowPost
  ihave HB := (unzip (S := Finset.univ) (fun h : Fin 4 => Own d (page x8M (e4 h))) _) $$ HB
  icases HB with ⟨Hx, HB⟩
  ihave HB := (unzip (S := Finset.univ) (fun h : Fin 4 => oFly d h (OV m d s h)) _) $$ HB
  icases HB with ⟨Hfly, HB⟩
  ihave HB := ((each fun h => unzip (S := Finset.univ) (fun g : Fin 3 => Own d (page rvM (rT h g))) (fun g : Fin 3 => atPos ER (recvCell d (rT h g)) 1 ∅ 0)).trans
    (unzip (S := Finset.univ) _ _)) $$ HB
  icases HB with ⟨Hrv, Hat⟩
  iapply (rep_rule (wp₀ d Q) 4 outWait _ (fun h => oFly d h (OV m d s h))
    (fun h => iprop(Has d (outRows h) fullShare (OV m d s h) ∗ Own d (page ovM h) ∗ semVal ((d : Thread nD τ), .dma (semAt cc0_scratch10 h)) 0))
    (fun _ => Owing d 0) (fun h k => outWait_rule d k Q h (OV m d s h))) $$ [Hfly HO]
  · isplitl [Hfly] <;> iassumption
  iintro ⟨HB, HO⟩
  ihave HB := (unzip (S := Finset.univ) (fun h : Fin 4 => Has d (outRows h) fullShare (OV m d s h)) _) $$ HB
  icases HB with ⟨Hout, HB⟩
  ihave HB := (unzip (S := Finset.univ) (fun h : Fin 4 => Own d (page ovM h)) _) $$ HB
  icases HB with ⟨Hov, Hz⟩
  ihave H1 := (zip (S := Finset.univ) (fun i : Fin 12 => cred (tallyAt (sendCell d (pT i)) () N)) (fun i : Fin 12 => atPos ER (sendCell d (pT i)) 0 ∅ 0)) $$ [Hsc Hsat]
  · isplitl [Hsc] <;> iassumption
  iapply (rep_rule (wp₀ d Q) 12 sendWait _ (fun i => iprop(cred (tallyAt (sendCell d (pT i)) () N) ∗ atPos ER (sendCell d (pT i)) 0 ∅ 0))
    (fun i => iprop(Own d (page x8M (e12 (pT i))) ∗ atPos ER (sendCell d (pT i)) 1 ∅ 0))
    (fun _ => iprop(Rec m K ∗ Owing d 0)) (fun i k => by
    iintro ⟨⟨Hc, Hat⟩, #Hr, HO⟩ Hk
    iapply (sendWait_rule m K d k Q i) $$ [Hc Hat HO]
    · isplitr; · iexact Hr
      isplitl [Hc]; · iexact Hc
      isplitl [Hat] <;> iassumption
    iintro ⟨Hx, Hat, HO⟩
    iapply Hk
    isplitl [Hx Hat]
    · isplitl [Hx] <;> iassumption
    isplitr; · iexact Hr
    iexact HO)) $$ [H1 HO]
  · isplitl [H1]; · iexact H1
    isplitr; · iexact Hr
    iexact HO
  iintro ⟨HB, -, HO⟩
  ihave HB := (unzip (S := Finset.univ) (fun i : Fin 12 => Own d (page x8M (e12 (pT i)))) _) $$ HB
  icases HB with ⟨Hx', Hsat⟩
  iapply Hk
  isplitl [Hx Hx']
  · isplitl [Hx'] <;> iassumption
  isplitl [Hrv]; · iexact Hrv
  isplitl [Hov]; · iexact Hov
  isplitl [Hout]; · iexact Hout
  isplitl [Hz]; · iexact Hz
  isplitl [Hat Hsat]
  · isplitl [Hsat] <;> iassumption
  isplitl [H8] <;> iassumption

end Cert.KernelIdeal.Protocol

end
-- ==== Proof.Whole.lean ====
/-
  The kernel's body on one device: the parts of its plan put together.
-/
module

public import proofs.«01_k».proof.Proof.Body

@[expose] public section

noncomputable section

namespace Cert.KernelIdeal.Protocol

open Cert.KernelIdeal Cert.KernelIdeal.Plan Cert.Paged
open Cert.KernelIdeal.Facts₀ Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × Cell → ℕ) (d : Dev nD) (k : Body F)

/-! ## The scalars -/

/-- The only element of a scalar's array. -/
def only (f : Vec F S1 .f32) : F .f32 := f (Shape.Idx.first (numel1_S1.symm ▸ Nat.one_pos))

theorem hz1 : (![0] : Fin 1 → Nat) = fun _ => 0 := funext fun a => by fin_cases a; rfl

theorem scale0_rule (Q : PUnit.{1} → sProp 𝕄) (f : Buf (Elt F) ((d : Thread nD τ).loc cc0_stg0_0)) (k : F .f32 → Body F) :
    ((d : Thread nD τ).loc cc0_stg0_0 ↦{fullShare} f)
      ⊢ iprop((((d : Thread nD τ).loc cc0_stg0_0 ↦{fullShare} f) -∗ wp₀ d Q (k (only f))) -∗ wp₀ d Q (scalarLoad (Memref.whole cc0_stg0_0) k)) := by
  unfold scalarLoad
  iintro H Hk
  iapply (wp_load 𝒱₀ (d : Thread nD τ) none Set.univ (m := Memref.whole cc0_stg0_0) (f := f) (q := fullShare) (Finset.subset_univ _)) $$ H
  rw [show (Memref.whole cc0_stg0_0 : Memref sig .tc .smem S1 .f32).view.readAt (Elt F) (Rect.unit (s := S1) ![0] S1.size inb_S1_S1_0).toLoadRect f = f from
    Memref.readAt_unit_zero (Elt F) cc0_stg0_0 hz1 _ f]
  iexact Hk

theorem scale1_rule (Q : PUnit.{1} → sProp 𝕄) (f : Buf (Elt F) ((d : Thread nD τ).loc cc0_stg1_0)) (k : F .f32 → Body F) :
    ((d : Thread nD τ).loc cc0_stg1_0 ↦{fullShare} f)
      ⊢ iprop((((d : Thread nD τ).loc cc0_stg1_0 ↦{fullShare} f) -∗ wp₀ d Q (k (only f))) -∗ wp₀ d Q (scalarLoad (Memref.whole cc0_stg1_0) k)) := by
  unfold scalarLoad
  iintro H Hk
  iapply (wp_load 𝒱₀ (d : Thread nD τ) none Set.univ (m := Memref.whole cc0_stg1_0) (f := f) (q := fullShare) (Finset.subset_univ _)) $$ H
  rw [show (Memref.whole cc0_stg1_0 : Memref sig .tc .smem S1 .f32).view.readAt (Elt F) (Rect.unit (s := S1) ![0] S1.size inb_S1_S1_0).toLoadRect f = f from
    Memref.readAt_unit_zero (Elt F) cc0_stg1_0 hz1 _ f]
  iexact Hk

/-! ## What a device holds -/

/-- The kernel's working memory, at any contents. -/
def scratch : sProp 𝕄 := iprop(Own d x8M ∗ Own d rvM ∗ Own d xsM ∗ Own d w8M ∗ Own d wsM ∗ Own d ovM)
/-- The semaphores of the copies within a device, at zero. -/
def idle : sProp 𝕄 :=
  iprop((bigSep Finset.univ fun i : Fin 16 => semVal ((d : Thread nD τ), .dma (semAt cc0_scratch6 i)) 0)
    ∗ (bigSep Finset.univ fun h : Fin 2 => semVal ((d : Thread nD τ), .dma (semAt cc0_scratch7 h)) 0)
    ∗ bigSep Finset.univ fun h : Fin 4 => semVal ((d : Thread nD τ), .dma (semAt cc0_scratch10 h)) 0)
/-- The semaphores with rounds, at zero. -/
def zeros : sProp 𝕄 :=
  iprop(semVal (barCell d) 0 ∗ (bigSep Finset.univ fun p : Fin 12 => semVal (sendCell d p) 0) ∗ bigSep Finset.univ fun p : Fin 12 => semVal (recvCell d p) 0)
/-- The tokens of what the device pays. -/
def payToks : sProp 𝕄 :=
  iprop((bigSep Finset.univ fun i : Fin 3 => dutyTok ER (barCell (sigT d i)) 0 d)
    ∗ (bigSep Finset.univ fun i : Fin 12 => dutyTok ER (recvCell (dstT d i) (pT i)) 0 0)
    ∗ bigSep Finset.univ fun i : Fin 12 => dutyTok ER (sendCell d (pT i)) 0 0)
/-- Its semaphores' positions before the first round. -/
def fresh : sProp 𝕄 :=
  iprop(atPos ER (barCell d) 0 ∅ 0 ∗ (bigSep Finset.univ fun p : Fin 12 => atPos ER (sendCell d p) 0 ∅ 0) ∗ bigSep Finset.univ fun p : Fin 12 => atPos ER (recvCell d p) 0 ∅ 0)
/-- What the others owe it. -/
def dues : sProp 𝕄 := iprop(cred (tallyAt (barCell d) () 3) ∗ bigSep Finset.univ fun p : Fin 12 => cred (tallyAt (recvCell d p) () N))
/-- The shares of x and w its copies read. -/
def sources : sProp 𝕄 := iprop((bigSep Finset.univ fun i : Fin 16 => xTok m d i) ∗ bigSep Finset.univ fun n : Fin 8 => wTok m d n)

/-- Semaphores a round on are at zero. -/
theorem close_all :
    iprop(Rec m K ∗ atPos ER (barCell d) 1 ∅ 0 ∗ passed d) ⊢ iprop(|={Set.univ}=> zeros (F := F) d) := by
  unfold passed zeros
  iintro ⟨#Hr, Hb, Hs, Hv⟩
  imod (close m K (barK d)) $$ [Hb] with Hb
  · isplitr; · iexact Hr
    iexact Hb
  imod ((each_with (fun p : Fin 12 => close m K (sendK d p))).trans (bigSep_fupd _ _)) $$ [Hs] with Hs
  · isplitr; · iexact Hr
    iexact Hs
  imod ((each_with (fun p : Fin 12 => close m K (recvK d p))).trans (bigSep_fupd _ _)) $$ [Hv] with Hv
  · isplitr; · iexact Hr
    iexact Hv
  imodintro
  isplitl [Hb]; · iexact Hb
  isplitl [Hs]; · iexact Hs
  iexact Hv

/-- The body of the kernel. -/
theorem plan_rule (Q : PUnit.{1} → sProp 𝕄)
    (f2 : Buf (Elt F) ((d : Thread nD τ).loc cc0_stg0_0)) (f3 : Buf (Elt F) ((d : Thread nD τ).loc cc0_stg1_0)) :
    iprop(Rec m K ∗ payToks d ∗ fresh d ∗ dues d ∗ idle d ∗ scratch d ∗ sources m d ∗ (bigSep Finset.univ fun h : Fin 4 => Own d (outRows h))
        ∗ Owing d (O₀ d) ∗ ((d : Thread nD τ).loc cc0_stg0_0 ↦{fullShare} f2) ∗ ((d : Thread nD τ).loc cc0_stg1_0 ↦{fullShare} f3))
      ⊢ iprop((iprop(zeros d ∗ idle d ∗ scratch d
            ∗ (bigSep Finset.univ fun h : Fin 4 => Has d (outRows h) fullShare (OV m d (Scalar.mulf (only f2) (only f3)) h))
            ∗ Owing d 0 ∗ ((d : Thread nD τ).loc cc0_stg0_0 ↦{fullShare} f2) ∗ ((d : Thread nD τ).loc cc0_stg1_0 ↦{fullShare} f3)) -∗ Q ⟨⟩)
          -∗ wp₀ d Q (plan (Memref.whole cc0_stg0_0) (Memref.whole cc0_stg1_0))) := by
  unfold payToks fresh dues idle scratch sources plan
  rw [two]
  iintro ⟨#Hr, ⟨Htb, Htv, Hts⟩, ⟨Hab, Has, Hav⟩, ⟨Hcb, Hcv⟩, ⟨Hzx, ⟨Hzw0, Hzw1⟩, Hzo⟩, ⟨Hx8, Hrv, Hxs, Hw8, Hws, Hov⟩, ⟨Hx, Hw⟩, Hrows, HO, H2, H3⟩ Hk
  unfold wp₀
  rw [wp_deviceId]
  iapply (part1 m K d _ Q) $$ [Hx Hxs Hzx Hrv Htb Hcb Hab HO]
  · isplitr; · iexact Hr
    isplitl [Hx]; · iexact Hx
    isplitl [Hxs]; · iexact Hxs
    isplitl [Hzx]; · iexact Hzx
    isplitl [Hrv]; · iexact Hrv
    isplitl [Htb]; · iexact Htb
    isplitl [Hcb]; · iexact Hcb
    isplitl [Hab] <;> iassumption
  iintro ⟨Hfly, Hd, Hab, HO⟩
  iapply (part2 m K d _ Q) $$ [Hfly Hx8 Hd Htv Hts HO]
  · isplitr; · iexact Hr
    isplitl [Hfly]; · iexact Hfly
    isplitl [Hx8]; · iexact Hx8
    isplitl [Hd]; · iexact Hd
    isplitl [Htv]; · iexact Htv
    isplitl [Hts] <;> iassumption
  iintro ⟨Hcs, Hxs, Hzx, Hx8, HO⟩
  ihave Hws := ((Own_pages d wsM).trans (Entails.of_eq (two _))) $$ Hws
  icases Hws with ⟨Hws0, Hws1⟩
  iapply (part3 m d _ Q) $$ [Hw Hws0 Hws1 Hzw0 Hzw1 Hw8 HO]
  · isplitl [Hw]; · iexact Hw
    isplitl [Hws0 Hws1 Hzw0 Hzw1]
    · unfold wFree
      isplitl [Hws0 Hzw0]
      · isplitl [Hws0] <;> iassumption
      isplitl [Hws1] <;> iassumption
    isplitl [Hw8] <;> iassumption
  unfold wFree
  iintro ⟨Hw8, ⟨⟨Hws0, Hzw0⟩, Hws1, Hzw1⟩, HO⟩
  iapply (scale0_rule d Q f2) $$ H2
  iintro H2
  iapply (scale1_rule d Q f3) $$ H3
  iintro H3
  iapply (part4 m K d _ Q (Scalar.mulf (only f2) (only f3))) $$ [Hx8 Hov Hrows Hzo Hcv Hav Hcs Has Hw8 HO]
  · isplitr; · iexact Hr
    isplitl [Hx8]; · iexact Hx8
    isplitl [Hov]; · iexact Hov
    isplitl [Hrows]; · iexact Hrows
    isplitl [Hzo]; · iexact Hzo
    isplitl [Hcv]; · iexact Hcv
    isplitl [Hav]; · iexact Hav
    isplitl [Hcs]; · iexact Hcs
    isplitl [Has]; · iexact Has
    isplitl [Hw8] <;> iassumption
  iintro ⟨Hx8, Hrv, Hov, Hrows, Hzo, Hpass, Hw8, HO⟩
  imod (close_all m K d) $$ [Hab Hpass] with Hz
  · isplitr; · iexact Hr
    isplitl [Hab] <;> iassumption
  rw [wp_ret]
  imodintro
  iapply Hk
  isplitl [Hz]; · iexact Hz
  isplitl [Hzx Hzw0 Hzw1 Hzo]
  · isplitl [Hzx]; · iexact Hzx
    isplitl [Hzw0 Hzw1]
    · isplitl [Hzw0] <;> iassumption
    iexact Hzo
  isplitl [Hx8 Hrv Hxs Hw8 Hws0 Hws1 Hov]
  · isplitl [Hx8]; · iapply (pages_Own d x8M) $$ Hx8
    isplitl [Hrv]; · iapply (pages_Own d rvM) $$ Hrv
    isplitl [Hxs]; · iapply (pages_Own d xsM) $$ Hxs
    isplitl [Hw8]; · iapply (w8Full_own m d) $$ Hw8
    isplitl [Hws0 Hws1]
    · iapply ((Entails.of_eq (two (fun h : Fin 2 => Own d (page wsM h))).symm).trans (pages_Own d wsM))
      isplitl [Hws0] <;> iassumption
    iapply (pages_Own d ovM) $$ Hov
  isplitl [Hrows]; · iexact Hrows
  isplitl [HO]; · iexact HO
  isplitl [H2] <;> iassumption

end Cert.KernelIdeal.Protocol

end
-- ==== Proof.Launch.lean ====
/-
  The launch: what the devices are dealt before their kernels begin.
-/
module

public import proofs.«01_k».proof.Proof.Whole
public import proofs.«01_k».proof.Proof.Gen.KernelIdeal.Launch
public import proofs.«01_k».proof.Proof.Gen.KernelIdeal.Points

@[expose] public section

noncomputable section

namespace Cert.KernelIdeal.Protocol

open Cert.KernelIdeal Cert.KernelIdeal.Plan Cert.Paged
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (d : Dev nD)

/-! ## The kernel's semaphores -/

/-- The kernel's own semaphores: of the pages sent and received, then of the copies of x, of w and of the result. -/
abbrev OwnSem : Type := (Fin 12 ⊕ Fin 12) ⊕ (Fin 16 ⊕ (Fin 2 ⊕ Fin 4))
abbrev osem : OwnSem → SemLoc sig
  | .inl (.inl p) => .dma (sendS p)
  | .inl (.inr p) => .dma (recvS p)
  | .inr (.inl i) => .dma (semAt cc0_scratch6 i)
  | .inr (.inr (.inl h)) => .dma (semAt cc0_scratch7 h)
  | .inr (.inr (.inr h)) => .dma (semAt cc0_scratch10 h)

set_option maxRecDepth 20000 in
theorem ownSemFacts : Pipeline.OwnSemFacts cfg0.spec osem := by decide +kernel

theorem ownSems0_eq : (Pipeline.ownSems0 (Ix := Unit) (Name := ℕ) (U := UU) (Lvl := ℕ) (Val := Elt F) (τ := τ) osem d : sProp 𝕄)
    = iprop(((bigSep Finset.univ fun p : Fin 12 => semVal (sendCell d p) 0) ∗ bigSep Finset.univ fun p : Fin 12 => semVal (recvCell d p) 0) ∗ idle d) := by
  unfold Pipeline.ownSems0 idle
  rw [bigSep_univ_sum, bigSep_univ_sum, bigSep_univ_sum, bigSep_univ_sum]
  rfl
theorem unscopedSems0_eq : (unscopedSems0 d : sProp 𝕄) = semVal (barCell d) 0 := by
  unfold unscopedSems0; rw [bigSep_eq_bigSepL_of_eq [SemLoc.reg barS] (by decide) (by decide)]; rfl

theorem one_unit (Φ : Unit → sProp 𝕄) : bigSep Finset.univ Φ = Φ () := by
  exact bigSep_univ_eq_bigSepL [()] (by decide) (by decide) Φ
theorem cells_eq (Φ : Cell → sProp 𝕄) :
    bigSep Finset.univ Φ = iprop(Φ (.inl ()) ∗ (bigSep Finset.univ fun p : Fin 12 => Φ (.inr (.inl p))) ∗ bigSep Finset.univ fun p : Fin 12 => Φ (.inr (.inr p))) := by
  rw [bigSep_univ_sum, one_unit, bigSep_univ_sum]
  rfl

/-! ## The launch element -/

/-- The role of a semaphore with rounds. -/
def roleOf : Cell → Role
  | .inl _ => .bar
  | .inr (.inl p) => .send p
  | .inr (.inr p) => .recv p
theorem role_cell (c : Cell) : role (cellLoc c) = roleOf c := by
  rcases c with _ | p | p
  · rfl
  · exact role_send p
  · exact role_recv p
theorem roleOf_inj : Function.Injective roleOf := by
  rintro (_ | p | p) (_ | q | q) h <;> simp_all [roleOf]
theorem kcell_inj : Function.Injective (kcell : Dev nD × Cell → GSem nD τ sig) := by
  rintro ⟨c, k⟩ ⟨c', k'⟩ h
  have h1 : c = c' := congrArg (fun g : GSem nD τ sig => g.1.1) h
  have h2 : role (cellLoc k) = role (cellLoc k') := congrArg (fun g : GSem nD τ sig => role g.2) h
  rw [role_cell, role_cell] at h2
  rw [h1, roleOf_inj h2]

def cells : Finset (GSem nD τ sig) := Finset.univ.map ⟨kcell, kcell_inj⟩

/-- The payments, by payer: at the barrier, for the pages sent, and for their having left. -/
abbrev Payment : Type := (Dev nD × Fin 3) ⊕ ((Dev nD × Fin 12) ⊕ (Dev nD × Fin 12))
def tokOf : Payment → GSem nD τ sig × ℕ × Dev nD
  | .inl x => (barCell (sigT x.1 x.2), 0, x.1)
  | .inr (.inl x) => (recvCell (dstT x.1 x.2) (pT x.2), 0, 0)
  | .inr (.inr x) => (sendCell x.1 (pT x.2), 0, 0)
theorem role_tok (x : Payment) : role (tokOf x).1.2 = match x with
    | .inl _ => .bar | .inr (.inl x) => .recv (pT x.2) | .inr (.inr x) => .send (pT x.2) := by
  rcases x with _ | x | x
  · rfl
  · exact role_recv _
  · exact role_send _
theorem pT_inj : Function.Injective pT := pE.injective
theorem tokOf_inj : Function.Injective tokOf := by
  intro x y h
  have hr : role (tokOf x).1.2 = role (tokOf y).1.2 := by rw [h]
  have hd : (tokOf x).1.1.1 = (tokOf y).1.1.1 := by rw [h]
  have hp : (tokOf x).2.2 = (tokOf y).2.2 := by rw [h]
  rw [role_tok, role_tok] at hr
  rcases x with ⟨a, i⟩ | ⟨a, i⟩ | ⟨a, i⟩ <;> rcases y with ⟨b, j⟩ | ⟨b, j⟩ | ⟨b, j⟩ <;> (try (exfalso; revert hr; simp; done))
  · obtain rfl : a = b := hp
    rw [sigT_inj a i j hd]
  · obtain rfl : i = j := pT_inj (by simpa using hr)
    have hd : dstT a i = dstT b i := hd
    rw [← srcP_dstT a i, hd, srcP_dstT]
  · obtain rfl : i = j := pT_inj (by simpa using hr)
    obtain rfl : a = b := hd
    rfl
def tokens : Finset (GSem nD τ sig × ℕ × Dev nD) := Finset.univ.map ⟨tokOf, tokOf_inj⟩

def u₀ : UU := (initOf (Pipeline.cells cfgs Gen.cellOf_inj) (Pipeline.launchToks cfgs Gen.cellOf_inj), (initOf cells tokens, 1))

theorem deal (a : UR sig nD τ) (b : UB) : (ownU ((a, (b, 1)) : UU) : sProp 𝕄) ⊢ iprop(own (EP a) ∗ own (ER b)) := by
  exact BI.own_op_elim (uEmb.toEmb.op_of_mem (Prod.mk_mem_op (URA.mem_op_one a) (URA.mem_one_op (b, (1 : Counters)))))

/-- What a device is dealt: the states of its semaphores and their positions, and the tokens of what it pays. -/
def G : sProp 𝕄 :=
  iprop((bigSep Finset.univ fun k : Cell => roundState ER (Rd m) (kcell (d, k)) 0)
    ∗ (bigSep Finset.univ fun k : Cell => atPos ER (kcell (d, k)) 0 ∅ 0) ∗ (bigSep Finset.univ fun k : Cell => reached ER (kcell (d, k)) 0) ∗ payToks d)

theorem cells_by_device (Φ : GSem nD τ sig → sProp 𝕄) :
    bigSep cells Φ = bigSep Finset.univ fun d : Dev nD => bigSep Finset.univ fun k : Cell => Φ (kcell (d, k)) := by
  unfold cells; rw [bigSep_map, bigSep_univ_prod]; rfl
theorem tokens_by_device :
    bigSep tokens (fun x => dutyTok ER x.1 x.2.1 x.2.2) = bigSep Finset.univ fun d : Dev nD => (payToks d : sProp 𝕄) := by
  unfold tokens payToks
  rw [bigSep_map, bigSep_univ_sum, bigSep_univ_sum, bigSep_univ_prod, bigSep_univ_prod, bigSep_univ_prod, bigSep_sep', bigSep_sep']
  rfl

theorem fund_cells : own (ER (initOf cells tokens)) ⊢ (|==> bigSep Finset.univ (G m) : sProp 𝕄) := by
  iintro H
  imod (Rounds.fund ER (Rd m) cells tokens) $$ H with ⟨Hst, Hr, Hat, Ht⟩
  imodintro
  ihave Hst := (Entails.of_eq (cells_by_device fun g => roundState ER (Rd m) g 0)) $$ Hst
  ihave Hat := (Entails.of_eq (cells_by_device fun g => atPos ER g 0 ∅ 0)) $$ Hat
  ihave Hr := (Entails.of_eq (cells_by_device fun g => reached ER g 0)) $$ Hr
  ihave Ht := (Entails.of_eq tokens_by_device) $$ Ht
  unfold G; simp only [bigSep_sep']
  isplitl [Hst]; · iexact Hst
  isplitl [Hat]; · iexact Hat
  isplitl [Hr] <;> iassumption

/-! ## The invariants -/

/-- What a device has once the invariants are made. -/
def G' : sProp 𝕄 :=
  iprop(∃ K : Dev nD × Cell → ℕ, (bigSep Finset.univ fun ck => cellInv ER (Rd m) (K ck) (kcell ck)) ∗ (bigSep Finset.univ fun ck : Dev nD × Cell => reached ER (kcell ck) 0)
    ∗ payToks d ∗ fresh d ∗ idle d)

theorem make (Φ Ψ : Cell → sProp 𝕄) (h : ∀ k, iprop(Φ k) ⊢ iprop(|={Set.univ}=> Ψ k)) : bigSep Finset.univ Φ ⊢ iprop(|={Set.univ}=> bigSep Finset.univ Ψ) :=
  (each (S := Finset.univ) h).trans (bigSep_fupd _ _)

theorem core_alloc :
    iprop(Pipeline.ownSems0 (Ix := Unit) (Name := ℕ) (U := UU) (Lvl := ℕ) (Val := Elt F) (τ := τ) osem d ∗ unscopedSems0 d ∗ G m d)
      ⊢ iprop(|={Set.univ}=> ((bigSep Finset.univ fun k : Cell => iprop(∃ κ : ℕ, cellInv ER (Rd m) κ (kcell (d, k))))
          ∗ (bigSep Finset.univ fun k : Cell => reached ER (kcell (d, k)) 0) ∗ payToks d ∗ fresh d ∗ idle d)) := by
  unfold G
  rw [ownSems0_eq, unscopedSems0_eq]
  iintro ⟨⟨⟨Hs, Hv⟩, Hi⟩, Hb, Hst, Hat, Hr, Ht⟩
  ihave Hz := (Entails.of_eq (cells_eq (fun k : Cell => semVal (kcell (d, k)) 0)).symm) $$ [Hs Hv Hb]
  · isplitl [Hb]; · iexact Hb
    isplitl [Hs]; · iexact Hs
    iexact Hv
  imod ((zip (S := Finset.univ) (fun k : Cell => semVal (kcell (d, k)) 0) (fun k : Cell => roundState ER (Rd m) (kcell (d, k)) 0)).trans
    (make _ (fun k : Cell => iprop(∃ κ : ℕ, cellInv ER (Rd m) κ (kcell (d, k)))) fun k => (Rounds.body_intro ER (Rd m) (kcell (d, k))).trans inv_alloc)) $$ [Hz Hst] with HI
  · isplitl [Hz] <;> iassumption
  imodintro
  isplitl [HI]; · iexact HI
  isplitl [Hr]; · iexact Hr
  isplitl [Ht]; · iexact Ht
  isplitl [Hat]
  · unfold fresh
    iapply (Entails.of_eq (cells_eq (fun k : Cell => atPos ER (kcell (d, k)) 0 ∅ 0))) $$ Hat
  iexact Hi

theorem regroup :
    (bigSep Finset.univ fun d : Dev nD => iprop((bigSep Finset.univ fun k : Cell => iprop(∃ κ : ℕ, cellInv ER (Rd m) κ (kcell (d, k))))
          ∗ (bigSep Finset.univ fun k : Cell => reached ER (kcell (d, k)) 0) ∗ payToks d ∗ fresh d ∗ idle d) : sProp 𝕄)
      ⊢ bigSep Finset.univ (G' m) := by
  rw [bigSep_sep', bigSep_sep', ← bigSep_univ_prod (fun ck : Dev nD × Cell => iprop(∃ κ : ℕ, cellInv ER (Rd m) κ (kcell ck))),
    ← bigSep_univ_prod (fun ck : Dev nD × Cell => (reached ER (kcell ck) 0 : sProp 𝕄))]
  iintro ⟨HI, #HR, Hrest⟩
  ihave HK := (BI.bigSep_exists_pi Finset.univ (fun (ck : Dev nD × Cell) (κ : ℕ) => (cellInv ER (Rd m) κ (kcell ck) : sProp 𝕄))) $$ HI
  icases HK with ⟨%K, #HI⟩
  iapply (each_with (R := iprop((bigSep Finset.univ fun ck => cellInv ER (Rd m) (K ck) (kcell ck)) ∗ bigSep Finset.univ fun ck : Dev nD × Cell => reached ER (kcell ck) 0))
    (Φ := fun d : Dev nD => iprop(payToks d ∗ fresh d ∗ idle d)) fun d => by
      unfold G'
      iintro ⟨⟨HI, HR⟩, H⟩
      iexists K
      isplitl [HI]; · iexact HI
      isplitl [HR] <;> iassumption)
  isplitr
  · isplitr; · iexact HI
    iexact HR
  iexact Hrest

theorem glob : (bigSep Finset.univ fun d => iprop(Pipeline.ownSems0 (Ix := Unit) (Name := ℕ) (U := UU) (Lvl := ℕ) (Val := Elt F) (τ := τ) osem d ∗ unscopedSems0 d ∗ G m d) : sProp 𝕄)
    ⊢ |={Set.univ}=> bigSep Finset.univ (G' m) :=
  ((each (S := Finset.univ) fun d => core_alloc m d).trans (bigSep_fupd _ _)).trans (BI.fupd_mono (regroup m))

/-! ## The credit -/

theorem owed (g : GSem nD τ sig) : O₀ d g () = (∑ i, sendOwe d i g ()) + ∑ i, barOwe d i g () := by
  unfold O₀
  rw [tail_zero, tail_zero, Pi.add_apply, Finsupp.add_apply, Finset.sum_apply, Finset.sum_apply, Finsupp.finset_sum_apply, Finsupp.finset_sum_apply]

theorem bar_iff {a b : Dev nD} : Iff (barCell a = barCell b) (a = b) := ⟨fun h => congrArg (fun g : GSem nD τ sig => g.1.1) h, fun h => h ▸ rfl⟩
theorem recv_iff {a b : Dev nD} {p q : Fin 12} : Iff (recvCell a p = recvCell b q) (a = b ∧ p = q) :=
  ⟨fun h => ⟨congrArg (fun g : GSem nD τ sig => g.1.1) h, by
    have := congrArg (fun g : GSem nD τ sig => role g.2) h
    simp only [role_recv] at this
    exact Role.recv.inj this⟩, fun h => by rw [h.1, h.2]⟩
theorem bar_ne_recv {a b : Dev nD} {p : Fin 12} : barCell a ≠ recvCell b p := fun h => by
  have := congrArg (fun g : GSem nD τ sig => role g.2) h
  simp only [role_recv] at this
  exact absurd (show Role.bar = .recv p from this) (by simp)

theorem owed_bar (c : Dev nD) : O₀ d (barCell c) () = ∑ i, if c = sigT d i then 1 else 0 := by
  rw [owed, Finset.sum_eq_zero fun i _ => ?_, zero_add]
  · refine Finset.sum_congr rfl fun i _ => ?_
    unfold barOwe; rw [tallyAt_apply]
    exact if_congr ⟨fun h => bar_iff.mp h.1, fun h => ⟨bar_iff.mpr h, rfl⟩⟩ rfl rfl
  · unfold sendOwe; rw [tallyAt_apply, if_neg fun h => bar_ne_recv h.1]
theorem owed_recv (c : Dev nD) (p : Fin 12) : O₀ d (recvCell c p) () = N * ∑ i, if c = dstT d i ∧ p = pT i then 1 else 0 := by
  rw [owed, add_comm, Finset.sum_eq_zero fun i _ => ?_, zero_add, Finset.mul_sum]
  · refine Finset.sum_congr rfl fun i _ => ?_
    unfold sendOwe; rw [tallyAt_apply, mul_ite, mul_one, mul_zero]
    exact if_congr ⟨fun h => recv_iff.mp h.1, fun h => ⟨recv_iff.mpr h, rfl⟩⟩ rfl rfl
  · unfold barOwe; rw [tallyAt_apply, if_neg fun h => bar_ne_recv h.1.symm]

theorem three_each (c : Dev nD) : (∑ d : Dev nD, ∑ i : Fin 3, if c = sigT d i then 1 else 0) = 3 := by revert c; decide
theorem one_each (c : Dev nD) (p : Fin 12) : (∑ d : Dev nD, ∑ i : Fin 12, if c = dstT d i ∧ p = pT i then 1 else 0) = 1 := by revert c p; decide +kernel

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, three_each]
theorem launch_recv (c : Dev nD) (p : Fin 12) :
    tallyOn (recvCell c p) (launchCredit (Pipeline.owing O₀) 0 (recvCell c p)) = (tallyAt (recvCell c p) () N : CellTallies nD τ sig Unit) := by
  unfold tallyAt; refine congrArg _ (Finsupp.ext fun u => ?_); cases u
  rw [Pipeline.launchCredit_owing, Finsupp.single_eq_same, Finset.sum_congr rfl fun d _ => owed_recv d c p, ← Finset.mul_sum, one_each, mul_one]

/-- The semaphores the others owe. -/
def dueLoc : Unit ⊕ Fin 12 → SemLoc sig
  | .inl _ => .reg barS
  | .inr p => .dma (recvS p)
theorem dueLoc_inj : Function.Injective dueLoc := by
  rintro (_ | p) (_ | q) h <;> have h' := congrArg role h <;> simp only [dueLoc, role_recv] at h'
  · rfl
  · exact absurd (show Role.bar = .recv q from h') (by simp)
  · exact absurd (show Role.recv p = .bar from h') (by simp)
  · rw [Role.recv.inj h']

theorem creds (c : Dev nD) : (Pipeline.launchCred O₀ c : sProp 𝕄) ⊢ dues c := by
  unfold Pipeline.launchCred dues
  refine (show _ ⊢ bigSep (Finset.univ.map ⟨dueLoc, dueLoc_inj⟩)
      (fun sm : SemLoc sig => cred (tallyOn ((c : Thread nD τ), sm) (launchCredit (Pipeline.owing O₀) 0 ((c : Thread nD τ), sm)))) from
    bigSep_subset (Finset.subset_univ _)).trans (Entails.of_eq ?_)
  rw [bigSep_map, bigSep_univ_sum, one_unit]
  exact congr (congrArg BIBase.sep (congrArg cred (launch_bar c))) (bigSep_congr fun p _ => congrArg cred (launch_recv c p))

end Cert.KernelIdeal.Protocol

end
-- ==== Proof.Run.lean ====
/-
  The run: from any memory with all semaphores at zero, every execution on the four devices ends, with the arguments
  unchanged, all semaphores at zero, and the result's blocks of rows at what the kernel computes.
-/
module

public import proofs.«01_k».proof.Proof.Launch
public import Idealize.ShloMosaic.Lib.Pipeline.CollectiveSegs

@[expose] public section

noncomputable section

namespace Cert.KernelIdeal.Protocol

open Cert.KernelIdeal Cert.KernelIdeal.Plan Cert.Paged
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (d : Dev nD)

/-! ## The contents -/

/-- The two scalars as staged. -/
def S2 : Buf (Elt F) ((d : Thread nD τ).loc cc0_stg0_0) := (win0_0.blk (0 : Fin 1)).view.read (Elt F) (m ((d : Thread nD τ).loc main_arg2))
def S3 : Buf (Elt F) ((d : Thread nD τ).loc cc0_stg1_0) := (win0_1.blk (0 : Fin 1)).view.read (Elt F) (m ((d : Thread nD τ).loc main_arg3))
/-- What the h-th block of rows of the result holds in the end. -/
def result (h : Fin 4) : Vec F S256x2048 .f32 := OV m d (Scalar.mulf (only (S2 m d)) (only (S3 m d))) h

/-! ## The rows of the result -/

theorem rows_disjoint : ∀ h ∈ (Finset.univ : Finset (Fin 4)), ∀ h' ∈ (Finset.univ : Finset (Fin 4)), h ≠ h' →
    Disjoint (outRows h).view.set (outRows h').view.set := by
  intro h _ h' _ hne
  rw [View.set_slice, View.set_slice]
  refine (Finset.disjoint_map _).mpr (Finset.disjoint_left.mpr fun y hy hy' => hne ?_)
  rw [Rect.mem_set_unit] at hy hy'
  have h0 := hy 0
  have h0' := hy' 0
  simp at h0 h0'
  exact Fin.ext (by omega)

theorem rows_split (f : Buf (Elt F) ((d : Thread nD τ).loc main_v1)) :
    ((d : Thread nD τ).loc main_v1 ↦{fullShare} f) ⊢ (bigSep Finset.univ fun h : Fin 4 => Own d (outRows h) : sProp 𝕄) := by
  refine ((pointsTo_split_subset (Finset.subset_univ (Finset.univ.biUnion fun h : Fin 4 => (outRows h).view.set))).1).trans ?_
  rw [pointsTo_biUnion _ _ rows_disjoint]
  iintro ⟨H, -⟩
  iapply (each fun h : Fin 4 => show _ ⊢ Own d (outRows h) from by
    unfold Own
    iintro H
    iexists f
    iexact H) $$ H

theorem x_split : ((d : Thread nD τ).loc main_arg0 ↦{fullShare} m ((d : Thread nD τ).loc main_arg0))
    ⊢ (iprop(((d : Thread nD τ).loc main_arg0 ↦{shareDrop fullShare 16} m ((d : Thread nD τ).loc main_arg0)) ∗ bigSep Finset.univ fun i : Fin 16 => xTok m d i) : sProp 𝕄) := by
  refine (pointsTo_toks_split fullShare 16).trans (sep_mono_right (each fun i => ?_))
  unfold xTok
  iintro H
  ihave H := (pointsTo_split_subset (Finset.subset_univ (xSrc d i).view.set)).1 $$ H
  icases H with ⟨H, -⟩
  iexact H

theorem w_split : ((d : Thread nD τ).loc main_arg1 ↦{fullShare} m ((d : Thread nD τ).loc main_arg1))
    ⊢ (iprop(((d : Thread nD τ).loc main_arg1 ↦{shareDrop fullShare 8} m ((d : Thread nD τ).loc main_arg1)) ∗ bigSep Finset.univ fun n : Fin 8 => wTok m d n) : sProp 𝕄) := by
  refine (pointsTo_toks_split fullShare 8).trans (sep_mono_right (each fun n => ?_))
  unfold wTok
  iintro H
  ihave H := (pointsTo_split_subset (Finset.subset_univ (wSrc d (jT n) (hT n)).view.set)).1 $$ H
  icases H with ⟨H, -⟩
  iexact H

theorem own_whole (b : Ref sig .tc) :
    (Own d (Memref.whole b) : sProp 𝕄) = iprop(∃ f : Buf (Elt F) ((d : Thread nD τ).loc b), ((d : Thread nD τ).loc b) ↦{fullShare} f) := by
  unfold Own; simp only [Memref.view_whole, View.set_whole]

theorem scopedRest_eq : (Pipeline.scopedRest cfg0.spec d : sProp 𝕄) = scratch d := by
  rw [show (Pipeline.scopedRest cfg0.spec d : sProp 𝕄) = _ from Gen.scopedRest0_eq d]
  unfold scratch
  simp only [own_whole]

/-! ## The invariant of the kernel's one point -/

/-- What a device enters the kernel with, -/
def start : sProp 𝕄 :=
  iprop((∃ K, Rec m K ∗ payToks d ∗ fresh d ∗ idle d) ∗ dues d ∗ sources m d ∗ bigSep Finset.univ fun h : Fin 4 => Own d (outRows h))
def Φ₀ : sProp 𝕄 := iprop(start m d ∗ scratch d)
/-- and leaves it with. -/
def done : sProp 𝕄 := bigSep Finset.univ fun h : Fin 4 => Has d (outRows h) fullShare (result m d h)
def Φ₁ : sProp 𝕄 := iprop(zeros d ∗ idle d ∗ scratch d ∗ done m d)

def dats (_ : Fin 1) (c : Dev nD) : Dat τ (Elt F) Unit ℕ UU ℕ cfg0 c where
  A w := m ((cfg0.win w).arr.view.loc (c : Thread nD τ))
  after w _ := match w with
    | ⟨0, _⟩ => S2 m c
    | ⟨1, _⟩ => S3 m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A buffer at known contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

abbrev t₀ : Fin cfg0.N := Gen.t0_0

def bodyPre : sProp 𝕄 :=
  iprop(Φ₀ m d ∗ (dats m 0 d).owesAt () t₀.castSucc
    ∗ (∃ x, stg d cc0_stg0_0 ((dats m 0 d).before (0 : Fin 2) t₀ x))
    ∗ (∃ x, stg d cc0_stg1_0 ((dats m 0 d).before (1 : Fin 2) t₀ x)))
def bodyPost : sProp 𝕄 :=
  iprop(Φ₁ m d ∗ (dats m 0 d).owesAt () t₀.succ ∗ stg d cc0_stg0_0 (S2 m d) ∗ stg d cc0_stg1_0 (S3 m d))

theorem body_rule :
    bodyPre m d ⊢ wp₀ d (fun _ => bodyPost m d) (plan (Memref.whole cc0_stg0_0) (Memref.whole cc0_stg1_0)) := by
  unfold bodyPre Φ₀ start
  iintro ⟨⟨⟨⟨%K, #Hr, Ht, Hf, Hi⟩, Hd, Hs, Hrows⟩, Hscr⟩, Ho, ⟨%d0, %g0, %hg0, H2⟩, ⟨%d1, %g1, %hg1, H3⟩⟩
  have h2 : g0 = S2 m d := by rw [hg0]; unfold Dat.before; rw [if_pos (Gen.fetch0_0 t₀)]; rfl
  have h3 : g1 = S3 m d := by rw [hg1]; unfold Dat.before; rw [if_pos (Gen.fetch0_1 t₀)]; rfl
  subst h2 h3
  unfold Dat.owesAt Pipeline.owesWithin
  icases Ho with ⟨%W, %hW, HO⟩
  rw [show (dats m 0 d).owed t₀.castSucc = O₀ d from rfl]
  iapply (plan_rule m K d (fun _ => bodyPost m d) (S2 m d) (S3 m d)) $$ [Ht Hf Hi Hd Hs Hrows Hscr HO H2 H3]
  · isplitr; · iexact Hr
    isplitl [Ht]; · iexact Ht
    isplitl [Hf]; · iexact Hf
    isplitl [Hd]; · iexact Hd
    isplitl [Hi]; · iexact Hi
    isplitl [Hscr]; · iexact Hscr
    isplitl [Hs]; · iexact Hs
    isplitl [Hrows]; · iexact Hrows
    isplitl [HO]
    · unfold Owing; iexists W; iexact HO
    isplitl [H2] <;> iassumption
  unfold Owing
  iintro ⟨Hz, Hi, Hscr, Hrows, ⟨%W', HO⟩, H2, H3⟩
  unfold bodyPost Φ₁ done Dat.owesAt Pipeline.owesWithin
  isplitl [Hz Hi Hscr Hrows]
  · isplitl [Hz]; · iexact Hz
    isplitl [Hi]; · iexact Hi
    isplitl [Hscr]; · iexact Hscr
    iexact Hrows
  isplitl [HO]
  · iexists W'
    isplitr
    · ipureintro; exact fun _ _ => Or.inl trivial
    iexact HO
  isplitl [H2]
  · iexists (S2 m d); isplitr; · (ipureintro; rfl)
    iexact H2
  iexists (S3 m d); isplitr; · (ipureintro; rfl)
  iexact H3

set_option maxRecDepth 20000 in
/-- What the launch asks of the kernel's body. -/
theorem body_obligation : BodyObligation (dats m 0 d) (defs₀ (F := F)) 𝒱₀ () Set.univ := fun t => by
  rw [Gen.fin_N0 t]
  rw [Gen.bigSep_W0, Gen.bigSep_W0]
  simp only [owns_whole]
  show bodyPre m d ⊢ wp frame (wpE (defs₀ (F := F)) 𝒱₀ (d : Thread nD τ) none) Set.univ
    (cc0_body (F := F) xM (Memref.isWhole_whole _) wM (Memref.isWhole_whole _) (Memref.whole cc0_stg0_0) (Memref.isWhole_whole _)
      (Memref.whole cc0_stg1_0) (Memref.isWhole_whole _) outM (Memref.isWhole_whole _)
      x8M (Memref.isWhole_whole _) rvM (Memref.isWhole_whole _) xsM (Memref.isWhole_whole _) w8M (Memref.isWhole_whole _)
      wsM (Memref.isWhole_whole _) ovM (Memref.isWhole_whole _) cc0_scratch6 cc0_scratch7 cc0_scratch8 cc0_scratch9 cc0_scratch10)
    (fun _ => bodyPost m d)
  rw [body_eq_plan]
  exact body_rule m d

/-! ## The launch theorem's conditions -/

theorem share_eq (w : Fin cfg0.W) : (dats m 0 d).share w = fullShare := by unfold Dat.share; split <;> rfl

/-- What stays outside the kernel: enough of x and w to read them after it. -/
def kept : sProp 𝕄 :=
  iprop(((d : Thread nD τ).loc main_arg0 ↦{shareDrop fullShare 16} m ((d : Thread nD τ).loc main_arg0))
    ∗ ((d : Thread nD τ).loc main_arg1 ↦{shareDrop fullShare 8} m ((d : Thread nD τ).loc main_arg1)))

theorem start_intro :
    iprop(Pipeline.unscopedRestP Pipeline.Prefetch.none cfg0.spec d (fun b => m ((d : Thread nD τ).loc b)) ∗ levAts L lv
        ∗ Pipeline.launchCred O₀ d ∗ prngReg d (ρ d) ∗ G' m d)
      ⊢ |={Set.univ}=> iprop(start m d ∗ kept m d) := by
  rw [Pipeline.unscopedRestP_none, Gen.unscopedRest0_eq]
  unfold start kept G' sources
  iintro ⟨⟨Hx, Hw, Ho⟩, #Hlev, Hcr, -, ⟨%K, #HI, #HR, Ht, Hf, Hi⟩⟩
  ihave Hc := (creds d) $$ Hcr
  ihave Hx := (x_split m d) $$ Hx
  icases Hx with ⟨Hx, Hxt⟩
  ihave Hw := (w_split m d) $$ Hw
  icases Hw with ⟨Hw, Hwt⟩
  ihave Ho := (rows_split d _) $$ Ho
  imodintro
  isplitl [Ht Hf Hi Hc Hxt Hwt Ho]
  · isplitl [Ht Hf Hi]
    · iexists K
      isplitr
      · unfold Rec
        isplitr; · iexact HI
        isplitr; · iexact HR
        iexact Hlev
      isplitl [Ht]; · iexact Ht
      isplitl [Hf] <;> iassumption
    isplitl [Hc]; · iexact Hc
    isplitl [Hxt Hwt]
    · isplitl [Hxt] <;> iassumption
    iexact Ho
  isplitl [Hx] <;> iassumption

theorem enter :
    iprop(start m d ∗ Pipeline.prefHeld Pipeline.Prefetch.none d (fun _ => fullShare.right) (fun k => k.elim0) ∗ Pipeline.scopedRest cfg0.spec d)
      ⊢ (dats m 0 d).Φ 0 := by
  rw [show (dats m 0 d).Φ 0 = Φ₀ m d from rfl, scopedRest_eq]
  unfold Φ₀
  iintro ⟨Hs, -, Hr⟩
  isplitl [Hs] <;> iassumption

theorem leave :
    (dats m 0 d).Φ (Fin.last cfg0.N) ⊢ iprop((unscopedSems0 d ∗ done m d) ∗ Pipeline.ownSems0 osem d ∗ Pipeline.scopedRest cfg0.spec d) := by
  rw [show (dats m 0 d).Φ (Fin.last cfg0.N) = Φ₁ m d from rfl, scopedRest_eq, ownSems0_eq, unscopedSems0_eq]
  unfold Φ₁ zeros
  iintro ⟨⟨Hb, Hs, Hv⟩, Hi, Hscr, Hd⟩
  isplitl [Hb Hd]
  · isplitl [Hb] <;> iassumption
  isplitl [Hs Hv Hi]
  · isplitl [Hs Hv]
    · isplitl [Hs] <;> iassumption
    iexact Hi
  iexact Hscr

theorem waits : (levAts L lv : sProp 𝕄) ⊢ Pipeline.cellsWaits cfgs (dats m) () 0 d :=
  Pipeline.cellsWaits_intro cfgs (dats m) () 0 d fun w s t =>
    may_stage d _ (by fin_cases w <;> fin_cases s <;> rfl) _ (by
      rcases t with ⟨_ | _, ht⟩
      · exact Or.inl rfl
      · exact Or.inr rfl)

/-! ## Reading the memory after the run -/

theorem read_whole (s' : Phys nD τ sig (Elt F)) (b : Ref sig .tc) (q : PosShare TreeShare) (f : Buf (Elt F) ((d : Thread nD τ).loc b)) :
    iprop(((d : Thread nD τ).loc b ↦{q} f) ∗ SI s') ⊢ (iprop(⌜s'.mem.mem ((d : Thread nD τ).loc b) = f⌝ ∗ SI s') : sProp 𝕄) := by
  iintro ⟨H, HSI⟩
  icombine HSI H gives %h
  isplitr
  · ipureintro; exact Buf.eq_of_forall_mem_univ h
  iexact HSI

theorem read_has {sp : Space} {s : Shape} {e : EltTy} (s' : Phys nD τ sig (Elt F)) (M : Memref sig .tc sp s e) (v : s.Idx → Elt F e) :
    iprop(Has d M fullShare v ∗ SI s') ⊢ (iprop(⌜M.view.read (Elt F) (s'.mem.mem (M.view.loc (d : Thread nD τ))) = v⌝ ∗ SI s') : sProp 𝕄) := by
  unfold Has
  iintro ⟨⟨%f, %hf, H⟩, HSI⟩
  icombine HSI H gives %h
  isplitr
  · ipureintro
    rw [← hf]
    exact View.read_congr fun i hi => h i hi
  iexact HSI

theorem read_rows (s' : Phys nD τ sig (Elt F)) :
    iprop(done m d ∗ SI s') ⊢ (iprop(⌜∀ h : Fin 4, (outRows h).view.read (Elt F) (s'.mem.mem ((d : Thread nD τ).loc main_v1)) = result m d h⌝ ∗ SI s') : sProp 𝕄) := by
  unfold done
  rw [bigSep_univ_eq_bigSepL [(0 : Fin 4), 1, 2, 3] (by decide) (by decide)]
  show iprop((Has d (outRows 0) fullShare (result m d 0) ∗ Has d (outRows 1) fullShare (result m d 1) ∗ Has d (outRows 2) fullShare (result m d 2)
    ∗ Has d (outRows 3) fullShare (result m d 3)) ∗ SI s') ⊢ _
  iintro ⟨⟨H0, H1, H2, H3⟩, HSI⟩
  ihave H := (read_has d s' (outRows 0) _) $$ [H0 HSI]
  · isplitl [H0] <;> iassumption
  icases H with ⟨%h0, HSI⟩
  ihave H := (read_has d s' (outRows 1) _) $$ [H1 HSI]
  · isplitl [H1] <;> iassumption
  icases H with ⟨%h1, HSI⟩
  ihave H := (read_has d s' (outRows 2) _) $$ [H2 HSI]
  · isplitl [H2] <;> iassumption
  icases H with ⟨%h2, HSI⟩
  ihave H := (read_has d s' (outRows 3) _) $$ [H3 HSI]
  · isplitl [H3] <;> iassumption
  icases H with ⟨%h3, HSI⟩
  isplitr
  · ipureintro
    intro h
    fin_cases h
    exacts [h0, h1, h2, h3]
  iexact HSI

/-- What the run leaves on a device beside the scalars. -/
def Left (s : MemSt nD τ sig (Elt F)) : Prop :=
  s.mem ((d : Thread nD τ).loc main_arg0) = m ((d : Thread nD τ).loc main_arg0) ∧ s.mem ((d : Thread nD τ).loc main_arg1) = m ((d : Thread nD τ).loc main_arg1)
    ∧ ∀ h : Fin 4, (outRows h).view.read (Elt F) (s.mem ((d : Thread nD τ).loc main_v1)) = result m d h

theorem read_all (s' : Phys nD τ sig (Elt F)) :
    iprop((unscopedSems0 d ∗ done m d) ∗ kept m d ∗ SI s')
      ⊢ |={Set.univ}=> (iprop(⌜(∀ sm : SemLoc sig, sm.isScoped .tc = false → s'.mem.sem ((d.tc : Thread nD τ), sm) = 0) ∧ Left m d s'.mem⌝ ∗ SI s') : sProp 𝕄) := by
  unfold kept Left
  iintro ⟨⟨Hu, Hd⟩, ⟨Hx, Hw⟩, HSI⟩
  ihave H := (read_whole d s' main_arg0 _ _) $$ [Hx HSI]
  · isplitl [Hx] <;> iassumption
  icases H with ⟨%hx, HSI⟩
  ihave H := (read_whole d s' main_arg1 _ _) $$ [Hw HSI]
  · isplitl [Hw] <;> iassumption
  icases H with ⟨%hw, HSI⟩
  ihave H := (read_rows m d s') $$ [Hd HSI]
  · isplitl [Hd] <;> iassumption
  icases H with ⟨%ho, HSI⟩
  imod (Pipeline.unscopedSems0_read (X := unscopedSems0 d) (c := d) fupd_intro s') $$ [Hu HSI] with ⟨%hs, HSI⟩
  · isplitl [Hu] <;> iassumption
  imodintro
  isplitr
  · ipureintro; exact ⟨hs, hx, hw, ho⟩
  iexact HSI

/-! ## The run -/

/-- All that holds after the run. -/
def After (r : PUnit × MemSt nD τ sig (Elt F)) : Prop :=
  (∀ c : Dev nD, (r.2.mem ((c : Thread nD τ).loc main_arg2) = m ((c : Thread nD τ).loc main_arg2) ∧ r.2.mem ((c : Thread nD τ).loc main_arg3) = m ((c : Thread nD τ).loc main_arg3))
    ∧ Left m c r.2) ∧ r.2.sem = fun _ => 0

set_option maxRecDepth 20000 in
theorem run_main : θ_run defs (onTc (τ := τ) (main (F := F))) (⟨m, fun _ => 0, ρ⟩ : MemSt nD τ sig (Elt F)) (After m) :=
  Pipeline.θ_run_region_owing_glob_pf (fun p => (cfgs p).toPCfg) (fun p => (cfgs p).toPCfg_adm) (dats m) () Gen.cellOf_inj (0 : Fin 1)
    Gen.winFacts0.to₀ ownSemFacts (Pipeline.PreFacts.none _) EP defs₀ 𝒱₀ m ρ main
    (hmain := fun _ => rfl)
    (hbody := body_obligation m) (hne := fun w => by fin_cases w <;> exact Nat.succ_pos _) (harr := Gen.arr_whole0) (hstage := Gen.stage_whole0) (hshare := share_eq m)
    (hdistinct := Gen.winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (deal _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ done m c)) (Z := kept m)
    (hX := start_intro m ρ) (hin := enter m) (hout := leave m)
    (QY := fun c s => (∀ sm : SemLoc sig, sm.isScoped .tc = false → s.sem ((c.tc : Thread nD τ), sm) = 0) ∧ Left m c s)
    (hY := read_all m)
    (hQ := fun _ h hs => ⟨fun c => ⟨⟨((h c).1 0).trans ((dats m 0 c).arrAt_in (0 : Fin 2) rfl _), ((h c).1 1).trans ((dats m 0 c).arrAt_in (1 : Fin 2) rfl _)⟩, (h c).2.2.2⟩,
      sem_eq_zero hs fun c => (h c).2.2.1⟩)

end Cert.KernelIdeal.Protocol

end
-- ==== Proof.Terms.lean ====
/-
  The blocks the kernel multiplies, read at an index: where each lies in the arguments of the device that holds it.
-/
module

public import proofs.«01_k».proof.Proof.Run
public import Idealize.ShloMosaic.Lib.ValueIdx
public import Idealize.ShloMosaic.Lib.ValueLayout

@[expose] public section

noncomputable section

namespace Cert.KernelIdeal.Terms

open Cert.KernelIdeal Cert.KernelIdeal.Plan Cert.KernelIdeal.Protocol Cert.Paged
open Idealize.ShloMosaic Idealize.ShloMosaic.TcCoe Idealize.SL.Sem
open ValueIdx

variable {F : FTy → Type} [FloatOps F]
variable (m : (ℓ : Loc nD τ sig) → Buf (Elt F) ℓ) (d : Dev nD)

/-! ## Pages -/

theorem up_ix {a c : ℕ} {α : Type} (v : (Sh2 a c).Idx → α) (x : Fin a) (y : Fin c) : up v (ix3 (0 : Fin 1) x y) = v (ix2 x y) :=
  (congrArg (up v) (reshapeEquiv_ix2_1ab (page_casts a c) x y).symm).trans (congrFun (down_up v) (ix2 x y))

theorem down_ix {a c : ℕ} {α : Type} (w : (Sh3 1 a c).Idx → α) (x : Fin a) (y : Fin c) : down w (ix2 x y) = w (ix3 (0 : Fin 1) x y) :=
  congrArg w (reshapeEquiv_ix2_1ab (page_casts a c) x y)

/-! ## The blocks of x -/

/-- The rows of x that the i-th block of device `d` starts at: those of the device it goes to, and of its quarter. -/
theorem off1_row (d : Dev nD) (i : Fin 16) :
    k0_off1 d (BitVec.ofNat 32 (offT i).val) (BitVec.ofNat 32 (256 * (qT i).val)) 0 = 1024 * ((d.val + (offT i).val) % 4) + 256 * (qT i).val := by
  revert d i; decide
theorem off1_col (d : Dev nD) (i : Fin 16) :
    k0_off1 d (BitVec.ofNat 32 (offT i).val) (BitVec.ofNat 32 (256 * (qT i).val)) 1 = 0 := rfl

theorem XB_ix (i : Fin 16) (r : Fin 256) (k : Fin 1024) (R : Fin 4096)
    (hR : R.val = 1024 * ((d.val + (offT i).val) % 4) + 256 * (qT i).val + r.val) :
    XB m d i (ix2 r k) = (m ((d : Thread nD τ).loc main_arg0) : S4096x1024.Idx → F .f32) (ix2 R k) := by
  refine congrArg (m ((d : Thread nD τ).loc main_arg0) : S4096x1024.Idx → F .f32) (funext fun a => Fin.ext ?_)
  fin_cases a
  · have e := off1_row d i
    show k0_off1 d (BitVec.ofNat 32 (offT i).val) (BitVec.ofNat 32 (256 * (qT i).val)) 0 + 1 * r.val = R.val
    omega
  · have e := off1_col d i
    show k0_off1 d (BitVec.ofNat 32 (offT i).val) (BitVec.ofNat 32 (256 * (qT i).val)) 1 + 1 * k.val = k.val
    omega

/-! ## The blocks of w -/

/-- The rows of w that a half of the j-th block starts at: those of the device `backT j` places back. -/
theorem off2_row (d : Dev nD) (j : Fin 4) (h : Fin 2) :
    k0_off2 d (BitVec.ofNat 32 (backT j).val) (BitVec.ofNat 32 (512 * h.val)) 0 = 1024 * ((d.val + 4 - (backT j).val) % 4) + 512 * h.val := by
  revert d j h; decide
theorem off2_col (d : Dev nD) (j : Fin 4) (h : Fin 2) :
    k0_off2 d (BitVec.ofNat 32 (backT j).val) (BitVec.ofNat 32 (512 * h.val)) 1 = 0 := rfl

theorem WB_ix (j : Fin 4) (h : Fin 2) (k : Fin 512) (c : Fin 2048) (R : Fin 4096)
    (hR : R.val = 1024 * ((d.val + 4 - (backT j).val) % 4) + 512 * h.val + k.val) :
    WB m d j h (ix2 k c) = (m ((d : Thread nD τ).loc main_arg1) : S4096x2048.Idx → F .f32) (ix2 R c) := by
  refine congrArg (m ((d : Thread nD τ).loc main_arg1) : S4096x2048.Idx → F .f32) (funext fun a => Fin.ext ?_)
  fin_cases a
  · have e := off2_row d j h
    show k0_off2 d (BitVec.ofNat 32 (backT j).val) (BitVec.ofNat 32 (512 * h.val)) 0 + 1 * k.val = R.val
    omega
  · have e := off2_col d j h
    show k0_off2 d (BitVec.ofNat 32 (backT j).val) (BitVec.ofNat 32 (512 * h.val)) 1 + 1 * c.val = c.val
    omega

/-- A page of the cast of w is the page of the whole cast buffer. -/
theorem WJ_ix (j : Fin 4) (k : Fin 1024) (c : Fin 2048) : WJ m d j (ix3 (0 : Fin 1) k c) = (W8 m d : S4x1024x2048.Idx → F .fp8e5m2) (ix3 j k c) := by
  refine congrArg (W8 m d : S4x1024x2048.Idx → F .fp8e5m2) (funext fun a => Fin.ext ?_)
  fin_cases a
  · show j.val + 1 * 0 = j.val; omega
  · show 0 + 1 * k.val = k.val; omega
  · show 0 + 1 * c.val = c.val; omega

theorem W8_ix (j : Fin 4) (k : Fin 1024) (c : Fin 2048) : (W8 m d : S4x1024x2048.Idx → F .fp8e5m2) (ix3 j k c)
    = W8B m d j ⟨k.val / 512, Nat.div_lt_of_lt_mul k.isLt⟩ (ix2 (⟨k.val % 512, Nat.mod_lt _ (by decide)⟩ : Fin 512) c) :=
  up_ix _ _ _

/-! ## The result -/

/-- The h-th block of rows of the result, read at an index. -/
theorem outRows_ix (f : (main_v1 : Ref sig .tc).ty.Contents (Elt F)) (h : Fin 4) (r : Fin 256) (c : Fin 2048) (R : Fin 1024)
    (hR : R.val = 256 * h.val + r.val) : (outRows h).view.read (Elt F) f (ix2 r c) = (f : S1024x2048.Idx → F .f32) (ix2 R c) := by
  refine congrArg (f : S1024x2048.Idx → F .f32) (funext fun a => Fin.ext ?_)
  fin_cases a
  · show 256 * h.val + 1 * r.val = R.val; omega
  · show 0 + 1 * c.val = c.val; omega

end Cert.KernelIdeal.Terms

end
-- ==== Proof.Equation.lean ====
/-
  The equation: over the extended reals each device's result is its block of rows of the reference's result.

  A device adds four products over 1024 positions each, one for every device's columns of x; the reference has one
  product over the 4096 positions. Sums of extended reals may be regrouped, so the two agree.
-/
module

public import proofs.«01_k».proof.Proof.Terms
public import proofs.«01_k».proof.Proof.Gen.ReferenceIdeal.Read
public import Idealize.ShloMosaic.Lib.Layout
public import Idealize.ShloMosaic.Lib.MatmulPlain
public import Idealize.ShloMosaic.Lib.Pointwise.Sums

@[expose] public section

noncomputable section

namespace Cert.KernelIdeal.Equation

open Cert.KernelIdeal Cert.KernelIdeal.Plan Cert.KernelIdeal.Protocol Cert.KernelIdeal.Terms Cert.Paged
open Idealize.ShloMosaic hiding ix2 ix3 eq_ix2
open Idealize.ShloMosaic.TcCoe Idealize.SL.Sem
open Idealize.ShloMosaic.ValueIdx
open scoped BigOperators

variable (m : (ℓ : Loc nD τ sig) → Buf (Elt Ideal) ℓ) (d : Dev nD)
variable (A : Cert.ReferenceIdeal.S4096x4096.Idx → EReal) (B : S4096x2048.Idx → EReal)

/-! ## One product -/

/-- The product of two blocks, read at an index. -/
theorem dotXW_ix (a : Vec Ideal S1x256x1024 .fp8e5m2) (b : Vec Ideal S1x1024x2048 .fp8e5m2) (r : Fin 256) (c : Fin 2048) :
    (dotXW a b : S256x2048.Idx → EReal) (ix2 r c) = ∑ k : Fin 1024, (a (ix3 (0 : Fin 1) r k) : EReal) * (b (ix3 (0 : Fin 1) k c) : EReal) := by
  refine (Ideal.matmul_plain_apply (M := 256) (K := 1024) (N := 2048) none _ _ _ r c).trans ?_
  rw [show (constant S256x2048 .f32 0x00000000#32 : FVec Ideal S256x2048 .f32) (ix2 r c) = 0 from Ideal.ofBits_zero_f32, zero_add]
  refine Finset.sum_congr rfl fun k _ => ?_
  rw [shapeCast_1ab_ab_apply, shapeCast_1ab_ab_apply]

/-- The part of the whole product that device `e`'s columns of x make: row `R`, column `c`. -/
def part (R : Fin 4096) (c : Fin 2048) (e : Fin 4) : EReal :=
  ∑ k : Fin 1024, A (ix2 R (⟨e.val * 1024 + k.val, by omega⟩ : Fin 4096)) * B (ix2 (⟨e.val * 1024 + k.val, by omega⟩ : Fin 4096) c)

/-- The four parts are the whole product. -/
theorem parts (R : Fin 4096) (c : Fin 2048) : ∑ e : Fin 4, part A B R c e = ∑ k : Fin 4096, A (ix2 R k) * B (ix2 k c) :=
  (Fin.sum_univ_tiles 4 1024 rfl fun k : Fin 4096 => A (ix2 R k) * B (ix2 k c)).symm

/-! ## The four terms -/

/-- Each device holds its columns of x and all of w. -/
structure Held : Prop where
  x : ∀ (e : Dev nD) (R : Fin 4096) (k : Fin 1024), (m ((e : Thread nD τ).loc main_arg0) : S4096x1024.Idx → EReal) (ix2 R k)
    = A (ix2 R (⟨e.val * 1024 + k.val, by have : e.val < 4 := e.isLt; omega⟩ : Fin 4096))
  w : ∀ (e : Dev nD) (k : Fin 4096) (c : Fin 2048), (m ((e : Thread nD τ).loc main_arg1) : S4096x2048.Idx → EReal) (ix2 k c) = B (ix2 k c)

variable {m A B}

/-- Page `j` of the cast of w holds the rows of the device `backT j` places back. -/
theorem w_page (H : Held m A B) (j : Fin 4) (e : Fin 4) (he : e.val = (d.val + 4 - (backT j).val) % 4) (k : Fin 1024) (c : Fin 2048) :
    (WJ m d j (ix3 (0 : Fin 1) k c) : EReal) = B (ix2 (⟨e.val * 1024 + k.val, by omega⟩ : Fin 4096) c) := by
  rw [WJ_ix, W8_ix, ← H.w d]
  refine WB_ix m d j (⟨k.val / 512, Nat.div_lt_of_lt_mul k.isLt⟩ : Fin 2) (⟨k.val % 512, Nat.mod_lt _ (by decide)⟩ : Fin 512) c
    (⟨e.val * 1024 + k.val, by omega⟩ : Fin 4096) ?_
  show e.val * 1024 + k.val = 1024 * ((d.val + 4 - (backT j).val) % 4) + 512 * (k.val / 512) + k.val % 512
  rw [← he]; omega

/-- A cast block of x of device `e`, sent or kept for device `d`, holds `d`'s rows. -/
theorem x_page (H : Held m A B) (e : Dev nD) (p : Fin 16) (h : Fin 4) (hd : (e.val + (offT (blockOf p)).val) % 4 = d.val)
    (hq : qT (blockOf p) = h) (r : Fin 256) (k : Fin 1024) (R : Fin 4096) (hR : R.val = d.val * 1024 + 256 * h.val + r.val) :
    (up (X8 m e p) : S1x256x1024.Idx → EReal) (ix3 (0 : Fin 1) r k) = A (ix2 R (⟨e.val * 1024 + k.val, by have : e.val < 4 := e.isLt; omega⟩ : Fin 4096)) := by
  rw [← H.x e]
  refine (up_ix (X8 m e p) r k).trans (XB_ix m e (blockOf p) r k R ?_)
  rw [hd, hq, hR]; omega

theorem own_dst (h : Fin 4) : (d.val + (offT (blockOf (e4 h))).val) % 4 = d.val ∧ qT (blockOf (e4 h)) = h := by revert d h; decide
theorem own_src : d.val = (d.val + 4 - (backT 0).val) % 4 := by revert d; decide
theorem peer_dst (h : Fin 4) (i : Fin 3) : ((srcP d (rT h i)).val + (offT (blockOf (e12 (rT h i)))).val) % 4 = d.val
    ∧ qT (blockOf (e12 (rT h i))) = h := by revert d h i; decide
theorem peer_src (h : Fin 4) (i : Fin 3) : (srcP d (rT h i)).val = (d.val + 4 - (backT i.succ).val) % 4 := by revert d h i; decide

theorem own_term (H : Held m A B) (h : Fin 4) (r : Fin 256) (c : Fin 2048) (R : Fin 4096) (hR : R.val = d.val * 1024 + 256 * h.val + r.val) :
    (T0 m d h : S256x2048.Idx → EReal) (ix2 r c) = part A B R c d := by
  refine (dotXW_ix _ _ r c).trans (Finset.sum_congr rfl fun k _ => ?_)
  rw [x_page d H d (e4 h) h (own_dst d h).1 (own_dst d h).2 r k R hR,
    w_page d H 0 d (own_src d) k c]

theorem peer_term (H : Held m A B) (h : Fin 4) (i : Fin 3) (r : Fin 256) (c : Fin 2048) (R : Fin 4096) (hR : R.val = d.val * 1024 + 256 * h.val + r.val) :
    (TP m d (rT h i) i.succ : S256x2048.Idx → EReal) (ix2 r c) = part A B R c (srcP d (rT h i)) := by
  refine (dotXW_ix _ _ r c).trans (Finset.sum_congr rfl fun k _ => ?_)
  rw [x_page d H (srcP d (rT h i)) (e12 (rT h i)) h (peer_dst d h i).1 (peer_dst d h i).2 r k R hR,
    w_page d H i.succ (srcP d (rT h i)) (peer_src d h i) k c]

/-- The four devices, in the order in which device `d` adds them. -/
theorem all_devices (f : Fin 4 → EReal) (h : Fin 4) :
    f d + f (srcP d (rT h 0)) + f (srcP d (rT h 1)) + f (srcP d (rT h 2)) = ∑ e : Fin 4, f e := by
  have e : ∀ (d : Dev nD) (h : Fin 4), srcP d (rT h 0) = srcP d 0 ∧ srcP d (rT h 1) = srcP d 8 ∧ srcP d (rT h 2) = srcP d 4 := by decide
  rw [(e d h).1, (e d h).2.1, (e d h).2.2, Fin.sum_univ_four]
  fin_cases d
  · show f 0 + f 3 + f 1 + f 2 = f 0 + f 1 + f 2 + f 3; abel
  · show f 1 + f 0 + f 2 + f 3 = f 0 + f 1 + f 2 + f 3; abel
  · show f 2 + f 1 + f 3 + f 0 = f 0 + f 1 + f 2 + f 3; abel
  · show f 3 + f 2 + f 0 + f 1 = f 0 + f 1 + f 2 + f 3; abel

/-! ## The result -/

/-- What the kernel computes of its terms, read at an index: their sum, scaled, cut off at zero. -/
theorem OV_ix (s : EReal) (h : Fin 4) (r : Fin 256) (c : Fin 2048) :
    (OV m d s h : S256x2048.Idx → EReal) (ix2 r c)
      = max (((T0 m d h : S256x2048.Idx → EReal) (ix2 r c) + (TP m d (rT h 0) 1 : S256x2048.Idx → EReal) (ix2 r c)
          + (TP m d (rT h 1) 2 : S256x2048.Idx → EReal) (ix2 r c) + (TP m d (rT h 2) 3 : S256x2048.Idx → EReal) (ix2 r c)) * s) 0 := by
  refine (down_ix _ r c).trans ?_
  unfold last more first
  rw [shapeCast_ab_1ab_apply, maximumf_apply, mulf_apply, addf_apply, shapeCast_1ab_ab_apply, shapeCast_ab_1ab_apply, addf_apply,
    shapeCast_1ab_ab_apply, shapeCast_ab_1ab_apply, addf_apply, shapeCast_1ab_ab_apply, shapeCast_ab_1ab_apply]
  exact congrArg (max _) Ideal.ofBits_zero_f32

/-- A block of rows of the result is the reference's formula of the whole arrays. -/
theorem result_ix (H : Held m A B) (h : Fin 4) (r : Fin 256) (c : Fin 2048) (R : Fin 4096) (hR : R.val = d.val * 1024 + 256 * h.val + r.val) :
    (result m d h : S256x2048.Idx → EReal) (ix2 r c)
      = max ((∑ k : Fin 4096, A (ix2 R k) * B (ix2 k c)) * ((only (Protocol.S2 m d) : EReal) * (only (Protocol.S3 m d) : EReal))) 0 := by
  refine (OV_ix d _ h r c).trans ?_
  rw [own_term d H h r c R hR, show TP m d (rT h 0) 1 = TP m d (rT h 0) (0 : Fin 3).succ from rfl,
    show TP m d (rT h 1) 2 = TP m d (rT h 1) (1 : Fin 3).succ from rfl, show TP m d (rT h 2) 3 = TP m d (rT h 2) (2 : Fin 3).succ from rfl,
    peer_term d H h 0 r c R hR, peer_term d H h 1 r c R hR, peer_term d H h 2 r c R hR, all_devices d (part A B R c) h, parts]
  rfl

/-- An array of one element has one index, -/
theorem one_index (y z : S1.Idx) : y = z := funext fun a => Fin.ext (by
  fin_cases a
  have hy : (y 0).val < 1 := (y 0).isLt
  have hz : (z 0).val < 1 := (z 0).isLt
  show (y 0).val = (z 0).val
  omega)
/-- so each scale is read at it. -/
theorem scale0_ix (z : S1.Idx) : (only (Protocol.S2 m d) : EReal) = (m ((d : Thread nD τ).loc main_arg2) : S1.Idx → EReal) z :=
  congrArg (m ((d : Thread nD τ).loc main_arg2) : S1.Idx → EReal) (one_index _ _)
theorem scale1_ix (z : S1.Idx) : (only (Protocol.S3 m d) : EReal) = (m ((d : Thread nD τ).loc main_arg3) : S1.Idx → EReal) z :=
  congrArg (m ((d : Thread nD τ).loc main_arg3) : S1.Idx → EReal) (one_index _ _)

/-- Where the rows of the result read the reference's formula, the whole result is device `d`'s block of the
    reference's result. -/
theorem block_of_reference (H : Held m A B) (s2 s3 : Cert.ReferenceIdeal.S1.Idx → EReal)
    (h2 : m ((d : Thread nD τ).loc main_arg2) = s2) (h3 : m ((d : Thread nD τ).loc main_arg3) = s3)
    (f : (main_v1 : Ref sig .tc).ty.Contents (Elt Ideal))
    (hf : ∀ h : Fin 4, (outRows h).view.read (Elt Ideal) f = result m d h) :
    f = Layout.block ⟨2, ![1024, 2048]⟩ ⟨2, ![4096, 2048]⟩ 0 4 d
      (Cert.ReferenceIdeal.Read.val_main_v6 (F := Ideal) A B s2 s3 : Cert.ReferenceIdeal.S4096x2048.Idx → EReal) := by
  funext (i : S1024x2048.Idx)
  have h0 : (i 0).val < 1024 := (i 0).isLt
  have hd : d.val < 4 := d.isLt
  let h : Fin 4 := ⟨(i 0).val / 256, by omega⟩
  let r : Fin 256 := ⟨(i 0).val % 256, Nat.mod_lt _ (by decide)⟩
  let c : Fin 2048 := i 1
  let R : Fin 4096 := ⟨d.val * 1024 + (i 0).val, by omega⟩
  have hi : i = ix2 (i 0 : Fin 1024) c := eq_ix2 i
  have e1 : f i = (result m d h : S256x2048.Idx → EReal) (ix2 r c) := by
    rw [← hf h, hi]
    exact (outRows_ix f h r c (i 0) (by show (i 0).val = 256 * ((i 0).val / 256) + (i 0).val % 256; omega)).symm
  rw [e1, result_ix d H h r c R (by show d.val * 1024 + (i 0).val = d.val * 1024 + 256 * ((i 0).val / 256) + (i 0).val % 256; omega)]
  have e2 : (by decide : Layout.Tiles ⟨2, ![1024, 2048]⟩ ⟨2, ![4096, 2048]⟩ 0 4).idx d i = ix2 R c := funext fun a => Fin.ext (by
    fin_cases a
    · rfl
    · rfl)
  refine Eq.trans ?_ (congrArg (Cert.ReferenceIdeal.Read.val_main_v6 (F := Ideal) A B s2 s3 : Cert.ReferenceIdeal.S4096x2048.Idx → EReal) e2.symm)
  rw [Cert.ReferenceIdeal.Read.val_main_v6_apply, Cert.ReferenceIdeal.Read.val_main_v4_apply, Cert.ReferenceIdeal.Read.val_main_v0_apply,
    Cert.ReferenceIdeal.Read.val_main_v3_apply, Cert.ReferenceIdeal.Read.val_main_v2_apply, Cert.ReferenceIdeal.Read.val_main_v1_apply,
    Cert.ReferenceIdeal.Read.val_main_v5_apply, Cert.ReferenceIdeal.Read.val_main_cst_apply]
  refine congrArg₂ (max : EReal → EReal → EReal) (congrArg₂ (· * ·) ?_ (congrArg₂ (· * ·) ?_ ?_)) Ideal.ofBits_zero_f32.symm
  · refine Finset.sum_congr rfl fun k _ => congrArg₂ (· * ·) (congrArg A ?_) (congrArg B ?_)
    · funext a; fin_cases a <;> rfl
    · funext a; fin_cases a <;> rfl
  · rw [← h2]; exact scale0_ix d _
  · rw [← h3]; exact scale1_ix d _

end Cert.KernelIdeal.Equation

end
-- ==== Proof.lean ====
/-
  The five claims about the all-to-all product on four devices, assembled: the kernel's run (Proof/KernelRun.lean at the
  machine's floats, Proof/Run.lean over the extended reals), the reference's run, and the equation of their results
  (Proof/Equation.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel, at the machine's floats, runs, leaves its arguments and ends with every counter at zero; -/
theorem frame_kernel : quiescent_Kernel (hKernel := Cert.Kernel.Gen.facts) := fun m g _ =>
  (θ_run _ _ _).mono (fun _ h => ⟨fun c => ⟨(h.1 c).2.1, (h.1 c).2.2.1, (h.1 c).1.1, (h.1 c).1.2⟩, h.2⟩)
    (Cert.Kernel.Protocol.run_main (F := Bits) m g)

/-- and so it does over the extended reals. -/
theorem frame_ideal : quiescent_KernelIdeal (hKernelIdeal := Cert.KernelIdeal.Gen.facts) := fun m g _ =>
  (θ_run _ _ _).mono (fun _ h => ⟨fun c => ⟨(h.1 c).2.1, (h.1 c).2.2.1, (h.1 c).1.1, (h.1 c).1.2⟩, h.2⟩)
    (Cert.KernelIdeal.Protocol.run_main (F := Ideal) m g)

/-- The reference has no counter at all. -/
theorem frame_reference : quiescent_ReferenceIdeal (hReferenceIdeal := Cert.ReferenceIdeal.Gen.facts) := fun m g _ =>
  (θ_run _ _ _).mono (fun _ h => ⟨fun c => (h c).2, sem_eq_zero_of_no_sems rfl _⟩)
    (Cert.ReferenceIdeal.Value.run (F := Ideal) m g)

/-- What the claim assumes of the two memories, index by index: each device holds its columns of x and all of w. -/
theorem held (m : (ℓ : Loc Cert.KernelIdeal.nD Cert.KernelIdeal.τ Cert.KernelIdeal.sig) → Buf (Elt Ideal) ℓ)
    (A : Cert.ReferenceIdeal.S4096x4096.Idx → EReal) (B : Cert.ReferenceIdeal.S4096x2048.Idx → EReal)
    (hA : ∀ c : Dev Cert.KernelIdeal.nD, m ((c.tc : Thread Cert.KernelIdeal.nD Cert.KernelIdeal.τ).loc Cert.KernelIdeal.main_arg0)
      = Layout.block ⟨2, ![4096, 1024]⟩ ⟨2, ![4096, 4096]⟩ 1 4 c A)
    (hB : ∀ c : Dev Cert.KernelIdeal.nD, m ((c.tc : Thread Cert.KernelIdeal.nD Cert.KernelIdeal.τ).loc Cert.KernelIdeal.main_arg1) = B) :
    Cert.KernelIdeal.Equation.Held m A B where
  x := fun e R k => (congrFun (hA e) _).trans (congrArg A (funext fun a => Fin.ext (by fin_cases a <;> rfl)))
  w := fun e k c => congrFun (hB e) _

/-- Over the extended reals each device's result is its block of rows of the reference's. -/
theorem same_result : algebraic_KernelIdeal_ReferenceIdeal (hKernelIdeal := Cert.KernelIdeal.Gen.facts)
    (hReferenceIdeal := Cert.ReferenceIdeal.Gen.facts) := fun m g m' g' _ hm =>
  ⟨Cert.ReferenceIdeal.Read.val_main_v6 (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run _ _ _).mono (fun r h c => ⟨Cert.KernelIdeal.Equation.block_of_reference c (held m _ _ (fun c => (hm c).1) fun c => (hm c).2.1)
        _ _ (hm c).2.2.1 (hm c).2.2.2 _ (h.1 c).2.2.2,
      (h.1 c).2.1, (h.1 c).2.2.1, (h.1 c).1.1, (h.1 c).1.2⟩) (Cert.KernelIdeal.Protocol.run_main (F := Ideal) m g),
    (θ_run _ _ _).mono (fun _ h => ⟨(h 0).1.trans (Cert.ReferenceIdeal.Read.val_main_v6_eq (F := Ideal) _ _ _ _), (h 0).2⟩)
      (Cert.ReferenceIdeal.Value.run (F := Ideal) m' g')⟩

/-- All five claims. -/
theorem claim : Cert.Claim := ⟨Cert.Kernel.Gen.facts, Cert.KernelIdeal.Gen.facts, Cert.ReferenceIdeal.Gen.facts,
  frame_kernel, frame_ideal, frame_reference, trivial, same_result⟩

end Cert.Proof

end
